-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_two_pi" .f32 0x3E22F983#32 ((2097152 / 13176795 : ℝ) : EReal)

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S256x128 : Shape := ⟨2, ![256, 128]⟩
abbrev S_ : Shape := ⟨0, ![]⟩

class Facts : Prop where
  bcast_S_S256x128 : S_.BroadcastsInDim S256x128 (![] : Fin 0 → Fin S256x128.rank)

variable [Facts]

def fn {F : FTy → Type} [FloatOps F] (main_arg0 : FVec F S256x128 .f32) (main_arg1 : FVec F S256x128 .f32) (main_arg2 : FVec F S256x128 .f32) (main_arg3 : FVec F S256x128 .f32) (main_arg4 : IVec S256x128 1) : IVec S256x128 1 :=
  let main_v0 : FVec F S256x128 .f32 := Host.absf main_arg3
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : IVec S256x128 1 := noti main_arg4
  let main_v4 : IVec S256x128 1 := andi main_v2 main_v3
  main_v4
-- ==== Kernel.lean ====
abbrev S256x128 : Shape := ⟨2, ![256, 128]⟩
abbrev S4x256x128x128 : Shape := ⟨4, ![4, 256, 128, 128]⟩
abbrev S64x128 : Shape := ⟨2, ![64, 128]⟩
abbrev S4x64x128x128 : Shape := ⟨4, ![4, 64, 128, 128]⟩
abbrev S128x64 : Shape := ⟨2, ![128, 64]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x1x128x128 : Shape := ⟨4, ![1, 1, 128, 128]⟩
abbrev S256x128x128x4 : Shape := ⟨4, ![256, 128, 128, 4]⟩
abbrev S_ : Shape := ⟨0, ![]⟩
abbrev S256x8128 : Shape := ⟨2, ![256, 8128]⟩

abbrev nBuf : Space → Nat
  | .hbm => 10
  | .vmem => 10
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .i1⟩
  | .hbm, ⟨5, _⟩ => ⟨S4x256x128x128, .bf16⟩
  | .hbm, ⟨6, _⟩ => ⟨S256x128x128x4, .bf16⟩
  | .hbm, ⟨7, _⟩ => ⟨S256x128x128x4, .f32⟩
  | .hbm, ⟨8, _⟩ => ⟨S_, .i1⟩
  | .hbm, ⟨9, _⟩ => ⟨S256x8128, .i1⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S4x64x128x128, .bf16⟩
  | .local _ .vmem, ⟨9, _⟩ => ⟨S4x64x128x128, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S256x128 : Shape := ⟨2, ![256, 128]⟩
abbrev S8128 : Shape := ⟨1, ![8128]⟩
abbrev S_ : Shape := ⟨0, ![]⟩
abbrev S8128x1 : Shape := ⟨2, ![8128, 1]⟩
abbrev S256x8128 : Shape := ⟨2, ![256, 8128]⟩
abbrev S256x8128x1 : Shape := ⟨3, ![256, 8128, 1]⟩
abbrev S256x8128x4 : Shape := ⟨3, ![256, 8128, 4]⟩
abbrev S256x128x128x4 : Shape := ⟨4, ![256, 128, 128, 4]⟩
abbrev S8128x2 : Shape := ⟨2, ![8128, 2]⟩

abbrev nBuf : Space → Nat
  | .hbm => 294
  | .vmem => 0
  | .smem => 0
  | _ => 0

abbrev hbmTy0_0 (i : Nat) : BufTy := match i % 128 with
  | 0 => ⟨S256x128, .f32⟩
  | 1 => ⟨S256x128, .f32⟩
  | 2 => ⟨S256x128, .f32⟩
  | 3 => ⟨S256x128, .f32⟩
  | 4 => ⟨S256x128, .i1⟩
  | 5 => ⟨S8128, .i32⟩
  | 6 => ⟨S8128, .i32⟩
  | 7 => ⟨S256x128, .f32⟩
  | 8 => ⟨S256x128, .f32⟩
  | 9 => ⟨S256x128, .f32⟩
  | 10 => ⟨S_, .f32⟩
  | 11 => ⟨S_, .f32⟩
  | 12 => ⟨S256x128, .f32⟩
  | 13 => ⟨S256x128, .f32⟩
  | 14 => ⟨S256x128, .f32⟩
  | 15 => ⟨S_, .f32⟩
  | 16 => ⟨S_, .f32⟩
  | 17 => ⟨S256x128, .f32⟩
  | 18 => ⟨S256x128, .f32⟩
  | 19 => ⟨S256x128, .f32⟩
  | 20 => ⟨S_, .f32⟩
  | 21 => ⟨S_, .f32⟩
  | 22 => ⟨S256x128, .f32⟩
  | 23 => ⟨S256x128, .f32⟩
  | 24 => ⟨S256x128, .f32⟩
  | 25 => ⟨S_, .f32⟩
  | 26 => ⟨S256x128, .f32⟩
  | 27 => ⟨S256x128, .f32⟩
  | 28 => ⟨S_, .i32⟩
  | 29 => ⟨S8128, .i32⟩
  | 30 => ⟨S8128, .i1⟩
  | 31 => ⟨S_, .i32⟩
  | 32 => ⟨S8128, .i32⟩
  | 33 => ⟨S8128, .i32⟩
  | 34 => ⟨S8128, .i32⟩
  | 35 => ⟨S8128x1, .i32⟩
  | 36 => ⟨S256x8128, .f32⟩
  | 37 => ⟨S_, .i32⟩
  | 38 => ⟨S8128, .i32⟩
  | 39 => ⟨S8128, .i1⟩
  | 40 => ⟨S_, .i32⟩
  | 41 => ⟨S8128, .i32⟩
  | 42 => ⟨S8128, .i32⟩
  | 43 => ⟨S8128, .i32⟩
  | 44 => ⟨S8128x1, .i32⟩
  | 45 => ⟨S256x8128, .f32⟩
  | 46 => ⟨S256x8128, .f32⟩
  | 47 => ⟨S_, .f32⟩
  | 48 => ⟨S256x8128, .f32⟩
  | 49 => ⟨S256x8128, .f32⟩
  | 50 => ⟨S_, .f32⟩
  | 51 => ⟨S_, .f32⟩
  | 52 => ⟨S256x8128, .f32⟩
  | 53 => ⟨S256x8128, .f32⟩
  | 54 => ⟨S_, .f32⟩
  | 55 => ⟨S256x8128, .f32⟩
  | 56 => ⟨S256x8128, .i1⟩
  | 57 => ⟨S_, .f32⟩
  | 58 => ⟨S256x8128, .f32⟩
  | 59 => ⟨S256x8128, .i1⟩
  | 60 => ⟨S_, .f32⟩
  | 61 => ⟨S_, .i1⟩
  | 62 => ⟨S256x8128, .i1⟩
  | 63 => ⟨S256x8128, .i1⟩
  | 64 => ⟨S256x8128, .i1⟩
  | 65 => ⟨S256x8128, .f32⟩
  | 66 => ⟨S256x8128, .f32⟩
  | 67 => ⟨S256x8128, .f32⟩
  | 68 => ⟨S_, .f32⟩
  | 69 => ⟨S256x8128, .f32⟩
  | 70 => ⟨S256x8128, .f32⟩
  | 71 => ⟨S_, .i32⟩
  | 72 => ⟨S8128, .i32⟩
  | 73 => ⟨S8128, .i1⟩
  | 74 => ⟨S_, .i32⟩
  | 75 => ⟨S8128, .i32⟩
  | 76 => ⟨S8128, .i32⟩
  | 77 => ⟨S8128, .i32⟩
  | 78 => ⟨S8128x1, .i32⟩
  | 79 => ⟨S256x8128, .f32⟩
  | 80 => ⟨S_, .i32⟩
  | 81 => ⟨S8128, .i32⟩
  | 82 => ⟨S8128, .i1⟩
  | 83 => ⟨S_, .i32⟩
  | 84 => ⟨S8128, .i32⟩
  | 85 => ⟨S8128, .i32⟩
  | 86 => ⟨S8128, .i32⟩
  | 87 => ⟨S8128x1, .i32⟩
  | 88 => ⟨S256x8128, .f32⟩
  | 89 => ⟨S256x8128, .f32⟩
  | 90 => ⟨S256x8128, .f32⟩
  | 91 => ⟨S256x8128, .f32⟩
  | 92 => ⟨S256x8128, .f32⟩
  | 93 => ⟨S256x8128, .f32⟩
  | 94 => ⟨S_, .f32⟩
  | 95 => ⟨S_, .f32⟩
  | 96 => ⟨S256x8128, .f32⟩
  | 97 => ⟨S256x8128, .f32⟩
  | 98 => ⟨S256x8128, .f32⟩
  | 99 => ⟨S_, .i32⟩
  | 100 => ⟨S8128, .i32⟩
  | 101 => ⟨S8128, .i1⟩
  | 102 => ⟨S_, .i32⟩
  | 103 => ⟨S8128, .i32⟩
  | 104 => ⟨S8128, .i32⟩
  | 105 => ⟨S8128, .i32⟩
  | 106 => ⟨S8128x1, .i32⟩
  | 107 => ⟨S256x8128, .f32⟩
  | 108 => ⟨S_, .i32⟩
  | 109 => ⟨S8128, .i32⟩
  | 110 => ⟨S8128, .i1⟩
  | 111 => ⟨S_, .i32⟩
  | 112 => ⟨S8128, .i32⟩
  | 113 => ⟨S8128, .i32⟩
  | 114 => ⟨S8128, .i32⟩
  | 115 => ⟨S8128x1, .i32⟩
  | 116 => ⟨S256x8128, .f32⟩
  | 117 => ⟨S256x8128, .f32⟩
  | 118 => ⟨S256x8128, .f32⟩
  | 119 => ⟨S_, .f32⟩
  | 120 => ⟨S_, .f32⟩
  | 121 => ⟨S256x8128, .f32⟩
  | 122 => ⟨S256x8128, .f32⟩
  | 123 => ⟨S256x8128, .f32⟩
  | 124 => ⟨S256x8128, .f32⟩
  | 125 => ⟨S_, .f32⟩
  | 126 => ⟨S256x8128, .f32⟩
  | 127 => ⟨S256x8128, .f32⟩
  | _ => ⟨S256x128, .f32⟩

abbrev hbmTy0_1 (i : Nat) : BufTy := match i % 128 with
  | 0 => ⟨S256x8128, .f32⟩
  | 1 => ⟨S_, .f32⟩
  | 2 => ⟨S_, .f32⟩
  | 3 => ⟨S256x8128, .f32⟩
  | 4 => ⟨S256x8128, .f32⟩
  | 5 => ⟨S256x8128, .f32⟩
  | 6 => ⟨S256x128, .f32⟩
  | 7 => ⟨S256x128, .f32⟩
  | 8 => ⟨S256x128, .f32⟩
  | 9 => ⟨S256x128, .f32⟩
  | 10 => ⟨S_, .i32⟩
  | 11 => ⟨S8128, .i32⟩
  | 12 => ⟨S8128, .i1⟩
  | 13 => ⟨S_, .i32⟩
  | 14 => ⟨S8128, .i32⟩
  | 15 => ⟨S8128, .i32⟩
  | 16 => ⟨S8128, .i32⟩
  | 17 => ⟨S8128x1, .i32⟩
  | 18 => ⟨S256x8128, .f32⟩
  | 19 => ⟨S_, .i32⟩
  | 20 => ⟨S8128, .i32⟩
  | 21 => ⟨S8128, .i1⟩
  | 22 => ⟨S_, .i32⟩
  | 23 => ⟨S8128, .i32⟩
  | 24 => ⟨S8128, .i32⟩
  | 25 => ⟨S8128, .i32⟩
  | 26 => ⟨S8128x1, .i32⟩
  | 27 => ⟨S256x8128, .f32⟩
  | 28 => ⟨S256x8128, .f32⟩
  | 29 => ⟨S_, .i32⟩
  | 30 => ⟨S8128, .i32⟩
  | 31 => ⟨S8128, .i1⟩
  | 32 => ⟨S_, .i32⟩
  | 33 => ⟨S8128, .i32⟩
  | 34 => ⟨S8128, .i32⟩
  | 35 => ⟨S8128, .i32⟩
  | 36 => ⟨S8128x1, .i32⟩
  | 37 => ⟨S256x8128, .f32⟩
  | 38 => ⟨S_, .i32⟩
  | 39 => ⟨S8128, .i32⟩
  | 40 => ⟨S8128, .i1⟩
  | 41 => ⟨S_, .i32⟩
  | 42 => ⟨S8128, .i32⟩
  | 43 => ⟨S8128, .i32⟩
  | 44 => ⟨S8128, .i32⟩
  | 45 => ⟨S8128x1, .i32⟩
  | 46 => ⟨S256x8128, .f32⟩
  | 47 => ⟨S256x8128, .f32⟩
  | 48 => ⟨S_, .i32⟩
  | 49 => ⟨S8128, .i32⟩
  | 50 => ⟨S8128, .i1⟩
  | 51 => ⟨S_, .i32⟩
  | 52 => ⟨S8128, .i32⟩
  | 53 => ⟨S8128, .i32⟩
  | 54 => ⟨S8128, .i32⟩
  | 55 => ⟨S8128x1, .i32⟩
  | 56 => ⟨S256x8128, .f32⟩
  | 57 => ⟨S_, .i32⟩
  | 58 => ⟨S8128, .i32⟩
  | 59 => ⟨S8128, .i1⟩
  | 60 => ⟨S_, .i32⟩
  | 61 => ⟨S8128, .i32⟩
  | 62 => ⟨S8128, .i32⟩
  | 63 => ⟨S8128, .i32⟩
  | 64 => ⟨S8128x1, .i32⟩
  | 65 => ⟨S256x8128, .f32⟩
  | 66 => ⟨S256x8128, .f32⟩
  | 67 => ⟨S_, .i32⟩
  | 68 => ⟨S8128, .i32⟩
  | 69 => ⟨S8128, .i1⟩
  | 70 => ⟨S_, .i32⟩
  | 71 => ⟨S8128, .i32⟩
  | 72 => ⟨S8128, .i32⟩
  | 73 => ⟨S8128, .i32⟩
  | 74 => ⟨S8128x1, .i32⟩
  | 75 => ⟨S256x8128, .f32⟩
  | 76 => ⟨S_, .i32⟩
  | 77 => ⟨S8128, .i32⟩
  | 78 => ⟨S8128, .i1⟩
  | 79 => ⟨S_, .i32⟩
  | 80 => ⟨S8128, .i32⟩
  | 81 => ⟨S8128, .i32⟩
  | 82 => ⟨S8128, .i32⟩
  | 83 => ⟨S8128x1, .i32⟩
  | 84 => ⟨S256x8128, .f32⟩
  | 85 => ⟨S256x8128, .f32⟩
  | 86 => ⟨S256x8128, .f32⟩
  | 87 => ⟨S256x8128, .f32⟩
  | 88 => ⟨S256x8128, .f32⟩
  | 89 => ⟨S256x8128, .f32⟩
  | 90 => ⟨S256x8128, .f32⟩
  | 91 => ⟨S256x8128, .f32⟩
  | 92 => ⟨S256x8128, .f32⟩
  | 93 => ⟨S_, .f32⟩
  | 94 => ⟨S_, .f32⟩
  | 95 => ⟨S256x8128, .f32⟩
  | 96 => ⟨S256x8128, .f32⟩
  | 97 => ⟨S256x8128, .f32⟩
  | 98 => ⟨S256x8128x1, .f32⟩
  | 99 => ⟨S256x8128x1, .f32⟩
  | 100 => ⟨S256x8128x1, .f32⟩
  | 101 => ⟨S256x8128x1, .f32⟩
  | 102 => ⟨S256x8128x4, .f32⟩
  | 103 => ⟨S_, .i32⟩
  | 104 => ⟨S8128, .i32⟩
  | 105 => ⟨S8128, .i1⟩
  | 106 => ⟨S_, .i32⟩
  | 107 => ⟨S8128, .i32⟩
  | 108 => ⟨S8128, .i32⟩
  | 109 => ⟨S8128, .i32⟩
  | 110 => ⟨S8128x1, .i32⟩
  | 111 => ⟨S256x8128, .i1⟩
  | 112 => ⟨S_, .i32⟩
  | 113 => ⟨S8128, .i32⟩
  | 114 => ⟨S8128, .i1⟩
  | 115 => ⟨S_, .i32⟩
  | 116 => ⟨S8128, .i32⟩
  | 117 => ⟨S8128, .i32⟩
  | 118 => ⟨S8128, .i32⟩
  | 119 => ⟨S8128x1, .i32⟩
  | 120 => ⟨S256x8128, .i1⟩
  | 121 => ⟨S256x8128, .i1⟩
  | 122 => ⟨S256x8128x1, .i1⟩
  | 123 => ⟨S_, .f32⟩
  | 124 => ⟨S_, .f32⟩
  | 125 => ⟨S256x8128x4, .i1⟩
  | 126 => ⟨S256x8128x4, .f32⟩
  | 127 => ⟨S256x8128x4, .f32⟩
  | _ => ⟨S256x128, .f32⟩

abbrev hbmTy0_2 (i : Nat) : BufTy := match i % 128 with
  | 0 => ⟨S_, .f32⟩
  | 1 => ⟨S256x128x128x4, .f32⟩
  | 2 => ⟨S_, .i32⟩
  | 3 => ⟨S8128, .i32⟩
  | 4 => ⟨S8128, .i1⟩
  | 5 => ⟨S_, .i32⟩
  | 6 => ⟨S8128, .i32⟩
  | 7 => ⟨S8128, .i32⟩
  | 8 => ⟨S8128, .i32⟩
  | 9 => ⟨S_, .i32⟩
  | 10 => ⟨S8128, .i32⟩
  | 11 => ⟨S8128, .i1⟩
  | 12 => ⟨S_, .i32⟩
  | 13 => ⟨S8128, .i32⟩
  | 14 => ⟨S8128, .i32⟩
  | 15 => ⟨S8128, .i32⟩
  | 16 => ⟨S8128x1, .i32⟩
  | 17 => ⟨S8128x1, .i32⟩
  | 18 => ⟨S8128x2, .i32⟩
  | 19 => ⟨S256x128x128x4, .f32⟩
  | 20 => ⟨S_, .i32⟩
  | 21 => ⟨S8128, .i32⟩
  | 22 => ⟨S8128, .i1⟩
  | 23 => ⟨S_, .i32⟩
  | 24 => ⟨S8128, .i32⟩
  | 25 => ⟨S8128, .i32⟩
  | 26 => ⟨S8128, .i32⟩
  | 27 => ⟨S_, .i32⟩
  | 28 => ⟨S8128, .i32⟩
  | 29 => ⟨S8128, .i1⟩
  | 30 => ⟨S_, .i32⟩
  | 31 => ⟨S8128, .i32⟩
  | 32 => ⟨S8128, .i32⟩
  | 33 => ⟨S8128, .i32⟩
  | 34 => ⟨S8128x1, .i32⟩
  | 35 => ⟨S8128x1, .i32⟩
  | 36 => ⟨S8128x2, .i32⟩
  | 37 => ⟨S256x128x128x4, .f32⟩
  | _ => ⟨S256x128, .f32⟩

abbrev hbmTy (i : Nat) : BufTy := match i / 128 with
  | 0 => hbmTy0_0 i
  | 1 => hbmTy0_1 i
  | 2 => hbmTy0_2 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call2_v0 : Ref sig .tc := ⟨.hbm, 21, rfl⟩
abbrev main_call2_v1 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_c_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_cst : Ref sig .tc := ⟨.hbm, 54, rfl⟩
abbrev main_call3_v3 : Ref sig .tc := ⟨.hbm, 55, rfl⟩
abbrev main_call3_v4 : Ref sig .tc := ⟨.hbm, 56, rfl⟩
abbrev main_call3_cst_0 : Ref sig .tc := ⟨.hbm, 57, rfl⟩
abbrev main_call3_v5 : Ref sig .tc := ⟨.hbm, 58, rfl⟩
abbrev main_call3_v6 : Ref sig .tc := ⟨.hbm, 59, rfl⟩
abbrev main_call3_cst_1 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_v12 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_c_11 : Ref sig .tc := ⟨.hbm, 71, rfl⟩
abbrev main_v31 : Ref sig .tc := ⟨.hbm, 72, rfl⟩
abbrev main_v32 : Ref sig .tc := ⟨.hbm, 73, rfl⟩
abbrev main_c_12 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_13 : Ref sig .tc := ⟨.hbm, 80, rfl⟩
abbrev main_v38 : Ref sig .tc := ⟨.hbm, 81, rfl⟩
abbrev main_v39 : Ref sig .tc := ⟨.hbm, 82, rfl⟩
abbrev main_c_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_15 : Ref sig .tc := ⟨.hbm, 94, rfl⟩
abbrev main_call4_v0 : Ref sig .tc := ⟨.hbm, 95, rfl⟩
abbrev main_call4_v1 : Ref sig .tc := ⟨.hbm, 96, rfl⟩
abbrev main_v50 : Ref sig .tc := ⟨.hbm, 97, rfl⟩
abbrev main_v51 : Ref sig .tc := ⟨.hbm, 98, rfl⟩
abbrev main_c_16 : Ref sig .tc := ⟨.hbm, 99, rfl⟩
abbrev main_v52 : Ref sig .tc := ⟨.hbm, 100, rfl⟩
abbrev main_v53 : Ref sig .tc := ⟨.hbm, 101, rfl⟩
abbrev main_c_17 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_18 : Ref sig .tc := ⟨.hbm, 108, rfl⟩
abbrev main_v59 : Ref sig .tc := ⟨.hbm, 109, rfl⟩
abbrev main_v60 : Ref sig .tc := ⟨.hbm, 110, rfl⟩
abbrev main_c_19 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_20 : Ref sig .tc := ⟨.hbm, 119, rfl⟩
abbrev main_call5_v0 : Ref sig .tc := ⟨.hbm, 120, rfl⟩
abbrev main_call5_v1 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_21 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_22 : Ref sig .tc := ⟨.hbm, 129, rfl⟩
abbrev main_call6_v0 : Ref sig .tc := ⟨.hbm, 130, rfl⟩
abbrev main_call6_v1 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_23 : Ref sig .tc := ⟨.hbm, 138, rfl⟩
abbrev main_v80 : Ref sig .tc := ⟨.hbm, 139, rfl⟩
abbrev main_v81 : Ref sig .tc := ⟨.hbm, 140, rfl⟩
abbrev main_c_24 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_c_25 : Ref sig .tc := ⟨.hbm, 147, rfl⟩
abbrev main_v87 : Ref sig .tc := ⟨.hbm, 148, rfl⟩
abbrev main_v88 : Ref sig .tc := ⟨.hbm, 149, rfl⟩
abbrev main_c_26 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_27 : Ref sig .tc := ⟨.hbm, 157, rfl⟩
abbrev main_v95 : Ref sig .tc := ⟨.hbm, 158, rfl⟩
abbrev main_v96 : Ref sig .tc := ⟨.hbm, 159, rfl⟩
abbrev main_c_28 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_29 : Ref sig .tc := ⟨.hbm, 166, rfl⟩
abbrev main_v102 : Ref sig .tc := ⟨.hbm, 167, rfl⟩
abbrev main_v103 : Ref sig .tc := ⟨.hbm, 168, rfl⟩
abbrev main_c_30 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_31 : Ref sig .tc := ⟨.hbm, 176, rfl⟩
abbrev main_v110 : Ref sig .tc := ⟨.hbm, 177, rfl⟩
abbrev main_v111 : Ref sig .tc := ⟨.hbm, 178, rfl⟩
abbrev main_c_32 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_c_33 : Ref sig .tc := ⟨.hbm, 185, rfl⟩
abbrev main_v117 : Ref sig .tc := ⟨.hbm, 186, rfl⟩
abbrev main_v118 : Ref sig .tc := ⟨.hbm, 187, rfl⟩
abbrev main_c_34 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_c_35 : Ref sig .tc := ⟨.hbm, 195, rfl⟩
abbrev main_v125 : Ref sig .tc := ⟨.hbm, 196, rfl⟩
abbrev main_v126 : Ref sig .tc := ⟨.hbm, 197, rfl⟩
abbrev main_c_36 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_c_37 : Ref sig .tc := ⟨.hbm, 204, rfl⟩
abbrev main_v132 : Ref sig .tc := ⟨.hbm, 205, rfl⟩
abbrev main_v133 : Ref sig .tc := ⟨.hbm, 206, rfl⟩
abbrev main_c_38 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_39 : Ref sig .tc := ⟨.hbm, 221, rfl⟩
abbrev main_call7_v0 : Ref sig .tc := ⟨.hbm, 222, rfl⟩
abbrev main_call7_v1 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_c_40 : Ref sig .tc := ⟨.hbm, 231, rfl⟩
abbrev main_v154 : Ref sig .tc := ⟨.hbm, 232, rfl⟩
abbrev main_v155 : Ref sig .tc := ⟨.hbm, 233, rfl⟩
abbrev main_c_41 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_c_42 : Ref sig .tc := ⟨.hbm, 240, rfl⟩
abbrev main_v161 : Ref sig .tc := ⟨.hbm, 241, rfl⟩
abbrev main_v162 : Ref sig .tc := ⟨.hbm, 242, rfl⟩
abbrev main_c_43 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_44 : Ref sig .tc := ⟨.hbm, 251, rfl⟩
abbrev main_call8_v0 : Ref sig .tc := ⟨.hbm, 252, rfl⟩
abbrev main_call8_v1 : Ref sig .tc := ⟨.hbm, 253, rfl⟩
abbrev main_call8_v2 : Ref sig .tc := ⟨.hbm, 254, rfl⟩
abbrev main_v170 : Ref sig .tc := ⟨.hbm, 255, rfl⟩
abbrev main_cst_45 : Ref sig .tc := ⟨.hbm, 256, rfl⟩
abbrev main_v171 : Ref sig .tc := ⟨.hbm, 257, rfl⟩
abbrev main_c_46 : Ref sig .tc := ⟨.hbm, 258, rfl⟩
abbrev main_v172 : Ref sig .tc := ⟨.hbm, 259, rfl⟩
abbrev main_v173 : Ref sig .tc := ⟨.hbm, 260, rfl⟩
abbrev main_c_47 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_c_48 : Ref sig .tc := ⟨.hbm, 265, rfl⟩
abbrev main_v177 : Ref sig .tc := ⟨.hbm, 266, rfl⟩
abbrev main_v178 : Ref sig .tc := ⟨.hbm, 267, rfl⟩
abbrev main_c_49 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_c_50 : Ref sig .tc := ⟨.hbm, 276, rfl⟩
abbrev main_v186 : Ref sig .tc := ⟨.hbm, 277, rfl⟩
abbrev main_v187 : Ref sig .tc := ⟨.hbm, 278, rfl⟩
abbrev main_c_51 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_c_52 : Ref sig .tc := ⟨.hbm, 283, rfl⟩
abbrev main_v191 : Ref sig .tc := ⟨.hbm, 284, rfl⟩
abbrev main_v192 : Ref sig .tc := ⟨.hbm, 285, rfl⟩
abbrev main_c_53 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩

abbrev nD : Nat := 1
abbrev τ : Topo := Topo.v7x

variable {F : FTy → Type} [FloatOps F]
-- ==== Proof.Rows.lean ====
/- What one block of the kernel stores: for each row `r` of the 64 rows of a block and each of the four features one
   [128, 128] matrix over pairs of particles, written with the kernel's own vector operations but with the row a variable.
   `stores` is the list of all those stores, and `block` the array that they leave. -/
module

public import Idealize.ShloMosaic.Lib.Pipeline.FrameBody
public import Idealize.ShloMosaic.Lib.Pipeline.Value
public import Idealize.ShloMosaic.Lib.Pointwise

@[expose] public section

noncomputable section

namespace Cert.Rows

open Idealize.ShloMosaic Idealize.SL.Sem

abbrev S64x128 : Shape := ⟨2, ![64, 128]⟩
abbrev S128x64 : Shape := ⟨2, ![128, 64]⟩
abbrev S128x128 : Shape := ⟨2, ![128, 128]⟩
abbrev S128x1 : Shape := ⟨2, ![128, 1]⟩
abbrev S1x128 : Shape := ⟨2, ![1, 128]⟩
abbrev S128 : Shape := ⟨1, ![128]⟩
abbrev S1x1x128x128 : Shape := ⟨4, ![1, 1, 128, 128]⟩
abbrev S4x64x128x128 : Shape := ⟨4, ![4, 64, 128, 128]⟩

theorem colSlices (r : Fin 64) : S128x64.Slices ![0, r.val] S128x1 :=
  ⟨rfl, fun a => by have := r.isLt; match a with | ⟨0, _⟩ => exact Nat.le_refl 128 | ⟨1, _⟩ => exact this⟩

theorem rowSlices (r : Fin 64) : S64x128.Slices ![r.val, 0] S1x128 :=
  ⟨rfl, fun a => by have := r.isLt; match a with | ⟨0, _⟩ => exact this | ⟨1, _⟩ => exact Nat.le_refl 128⟩

theorem storeInside (f : Fin 4) (r : Fin 64) :
    ∀ a, (![f.val, r.val, 0, 0] : Fin 4 → Nat) a + S1x1x128x128.size a ≤ S4x64x128x128.size a := fun a => by
  have hf := f.isLt; have hr := r.isLt
  match a with
  | ⟨0, _⟩ => exact hf
  | ⟨1, _⟩ => exact hr
  | ⟨2, _⟩ => exact Nat.le_refl 128
  | ⟨3, _⟩ => exact Nat.le_refl 128

/-- The rectangle of feature `f` and row `r` in the block's output. -/
abbrev rect (f : Fin 4) (r : Fin 64) : Rect S4x64x128x128 :=
  Rect.unit (s := S4x64x128x128) ![f.val, r.val, 0, 0] S1x1x128x128.size (storeInside f r)

variable {F : FTy → Type} [FloatOps F]

/-! ## The block's per-particle quantities -/

/-- The longitudinal momentum, with the hyperbolic sine written by exponentials. -/
def pz (pt eta : FVec F S64x128 .f32) : FVec F S64x128 .f32 :=
  mulf pt (mulf (broadcast S64x128 (Scalar.ofBits .f32 0x3F000000#32))
    (subf (exp eta) (divf (broadcast S64x128 (Scalar.ofBits .f32 0x3F800000#32)) (exp eta))))

/-- The rapidity. -/
def rap (pt eta en : FVec F S64x128 .f32) : FVec F S64x128 .f32 :=
  mulf (broadcast S64x128 (Scalar.ofBits .f32 0x3F000000#32))
    (log (maximumf (broadcast S64x128 (Scalar.ofBits .f32 0x358637BD#32))
      (divf (maximumf (broadcast S64x128 (Scalar.ofBits .f32 0x358637BD#32)) (addf en (pz pt eta)))
        (maximumf (broadcast S64x128 (Scalar.ofBits .f32 0x358637BD#32)) (subf en (pz pt eta))))))

/-- The two transverse momenta. -/
def px (pt phi : FVec F S64x128 .f32) : FVec F S64x128 .f32 := mulf pt (cos phi)
def py (pt phi : FVec F S64x128 .f32) : FVec F S64x128 .f32 := mulf pt (sin phi)

/-- One particle's squared mass. -/
def mass (pt eta phi en : FVec F S64x128 .f32) : FVec F S64x128 .f32 :=
  subf (subf (subf (mulf en en) (mulf (px pt phi) (px pt phi))) (mulf (py pt phi) (py pt phi)))
    (mulf (pz pt eta) (pz pt eta))

/-! ## One row's matrices -/

/-- Row `r` of `v` down a column, repeated in every column: entry `(p, q)` is particle `p`'s value. -/
def col (r : Fin 64) (v : FVec F S64x128 .f32) : FVec F S128x128 .f32 :=
  broadcastTo S128x128 (shapeCast S128x1 (shapeCast S128x1 (shapeCast S128
    (extractStridedSlice S128x1 ![0, r.val] (transpose S128x64 [1, 0] v (by decide)) (colSlices r))
    (by decide)) (by decide)) (by decide)) (by decide)

/-- Row `r` of `v` repeated in every row: entry `(p, q)` is particle `q`'s value. -/
def row (r : Fin 64) (v : FVec F S64x128 .f32) : FVec F S128x128 .f32 :=
  broadcastTo S128x128 (shapeCast S1x128 (shapeCast S1x128 (shapeCast S128
    (extractStridedSlice S1x128 ![r.val, 0] v (rowSlices r)) (by decide)) (by decide)) (by decide)) (by decide)

/-- `log (1 + max ε x)`, entry by entry. -/
def clampLog (x : FVec F S128x128 .f32) : FVec F S128x128 .f32 :=
  log (addf (broadcast S128x128 (Scalar.ofBits .f32 0x3F800000#32))
    (maximumf (broadcast S128x128 (Scalar.ofBits .f32 0x358637BD#32)) x))

/-- One off the diagonal, zero on it. -/
def offDiagonal : FVec F S128x128 .f32 :=
  sitofp .f32 (extui 32 (cmpi .ne (iota .tc S128x128 32 [0] (by decide)) (iota .tc S128x128 32 [1] (by decide)))
    (by decide))

/-- The angle difference of each pair, and that difference less its nearest multiple of `2π` (`c` the factor `1/2π`). -/
def angle (r : Fin 64) (phi : FVec F S64x128 .f32) : FVec F S128x128 .f32 := subf (col r phi) (row r phi)
def wrapped (c : F .f32) (r : Fin 64) (phi : FVec F S64x128 .f32) : FVec F S128x128 .f32 :=
  subf (angle r phi) (mulf (broadcast S128x128 (Scalar.ofBits .f32 0x40C90FDB#32))
    (roundeven (mulf (angle r phi) (broadcast S128x128 c))))

/-- The rapidity difference of each pair. -/
def rapGap (r : Fin 64) (pt eta en : FVec F S64x128 .f32) : FVec F S128x128 .f32 :=
  subf (col r (rap pt eta en)) (row r (rap pt eta en))

/-- The angular distance feature of each pair. -/
def distance (c : F .f32) (r : Fin 64) (pt eta phi en : FVec F S64x128 .f32) : FVec F S128x128 .f32 :=
  clampLog (sqrt (addf (mulf (rapGap r pt eta en) (rapGap r pt eta en)) (mulf (wrapped c r phi) (wrapped c r phi))))

/-- The smaller transverse momentum of each pair. -/
def minPt (r : Fin 64) (pt : FVec F S64x128 .f32) : FVec F S128x128 .f32 := minimumf (col r pt) (row r pt)

/-- Twice the products of a pair's four-momenta, added to the two squared masses. -/
def pairMass (r : Fin 64) (pt eta phi en : FVec F S64x128 .f32) : FVec F S128x128 .f32 :=
  addf (addf (col r (mass pt eta phi en)) (row r (mass pt eta phi en)))
    (mulf (broadcast S128x128 (Scalar.ofBits .f32 0x40000000#32))
      (subf (subf (subf (mulf (col r en) (row r en)) (mulf (col r (px pt phi)) (row r (px pt phi))))
        (mulf (col r (py pt phi)) (row r (py pt phi)))) (mulf (col r (pz pt eta)) (row r (pz pt eta)))))

/-- The four features of row `r`, each a matrix over pairs. -/
def feature (c : F .f32) (f : Fin 4) (r : Fin 64) (pt eta phi en : FVec F S64x128 .f32) : FVec F S128x128 .f32 :=
  match f with
  | 0 => distance c r pt eta phi en
  | 1 => clampLog (mulf (minPt r pt) (distance c r pt eta phi en))
  | 2 => clampLog (divf (minPt r pt) (addf (addf (col r pt) (row r pt)) (broadcast S128x128 (Scalar.ofBits .f32 0x358637BD#32))))
  | 3 => clampLog (pairMass r pt eta phi en)

/-- What is stored of a feature: zero on the diagonal, rounded to bf16, as a [1, 1, 128, 128] array. -/
def stored (x : FVec F S128x128 .f32) : FVec F S1x1x128x128 .bf16 :=
  shapeCast S1x1x128x128 (truncf .bf16 (mulf x offDiagonal) (by decide)) (by decide)

/-! ## All stores of a block -/

variable (c : F .f32) (pt eta phi en : FVec F S64x128 .f32)

/-- The store of feature `f` of row `r`. -/
abbrev store (f : Fin 4) (r : Fin 64) : View.Piece (Elt F) S4x64x128x128 .bf16 :=
  ⟨rect f r, stored (feature c f r pt eta phi en)⟩

/-- The stores of the first `n` rows, the last first. -/
def stores : (n : Nat) → n ≤ 64 → List (View.Piece (Elt F) S4x64x128x128 .bf16)
  | 0, _ => []
  | n + 1, h => store c pt eta phi en 3 ⟨n, h⟩ :: store c pt eta phi en 2 ⟨n, h⟩ :: store c pt eta phi en 1 ⟨n, h⟩
      :: store c pt eta phi en 0 ⟨n, h⟩ :: stores n (Nat.le_of_succ_le h)

/-- The array that the stores leave: at `(f, r, p, q)` the entry `(p, q)` of feature `f` of row `r`. -/
def block : Vec F S4x64x128x128 .bf16 := fun y =>
  truncf .bf16 (mulf (feature c (y 0) (y 1) pt eta phi en) offDiagonal) (by decide) (ix2 (n0 := 128) (n1 := 128) (y 2) (y 3))

theorem stored_apply (x : FVec F S128x128 .f32) (i : S1x1x128x128.Idx) :
    stored x i = truncf .bf16 (mulf x offDiagonal) (by decide) (ix2 (n0 := 128) (n1 := 128) (i 2) (i 3)) := by
  unfold stored
  pointwise

theorem rect_emb (f : Fin 4) (r : Fin 64) (i : (rect f r).shape.Idx) :
    (rect f r).emb i 0 = f ∧ (rect f r).emb i 1 = r ∧ (rect f r).emb i 2 = i 2 ∧ (rect f r).emb i 3 = i 3 := by
  refine ⟨Fin.ext ?_, Fin.ext ?_, Fin.ext ?_, Fin.ext ?_⟩ <;> rw [Rect.emb_apply]
  · have : (i 0).val = 0 := Nat.lt_one_iff.mp (i 0).isLt
    show f.val + 1 * (i 0).val = f.val
    omega
  · have : (i 1).val = 0 := Nat.lt_one_iff.mp (i 1).isLt
    show r.val + 1 * (i 1).val = r.val
    omega
  · show 0 + 1 * (i 2).val = (i 2).val
    omega
  · show 0 + 1 * (i 3).val = (i 3).val
    omega

/-- Each store holds the block's array at its rectangle. -/
theorem store_eq (f : Fin 4) (r : Fin 64) (i : (rect f r).shape.Idx) :
    (store c pt eta phi en f r).2 i = block c pt eta phi en ((rect f r).emb i) := by
  obtain ⟨h0, h1, h2, h3⟩ := rect_emb f r i
  unfold block
  rw [h0, h1, h2, h3]
  exact stored_apply _ i

theorem stores_eq : ∀ (n : Nat) (h : n ≤ 64), ∀ p ∈ stores c pt eta phi en n h, ∀ i : p.1.shape.Idx,
    p.2 i = block c pt eta phi en (p.1.emb i)
  | 0, _, p, hp, _ => absurd hp List.not_mem_nil
  | n + 1, h, p, hp, i => by
    simp only [stores, List.mem_cons] at hp
    rcases hp with rfl | rfl | rfl | rfl | hp
    · exact store_eq c pt eta phi en 3 ⟨n, h⟩ i
    · exact store_eq c pt eta phi en 2 ⟨n, h⟩ i
    · exact store_eq c pt eta phi en 1 ⟨n, h⟩ i
    · exact store_eq c pt eta phi en 0 ⟨n, h⟩ i
    · exact stores_eq n _ p hp i

theorem mem_stores : ∀ (n : Nat) (h : n ≤ 64) (f : Fin 4) (r : Fin 64), r.val < n →
    store c pt eta phi en f r ∈ stores c pt eta phi en n h
  | 0, _, _, _, hr => absurd hr (Nat.not_lt_zero _)
  | n + 1, h, f, r, hr => by
    simp only [stores, List.mem_cons]
    rcases Nat.lt_succ_iff_lt_or_eq.mp hr with hr | hr
    · exact .inr (.inr (.inr (.inr (mem_stores n _ f r hr))))
    · obtain rfl : r = ⟨n, h⟩ := Fin.ext hr
      match f with
      | 0 => exact .inr (.inr (.inr (.inl rfl)))
      | 1 => exact .inr (.inr (.inl rfl))
      | 2 => exact .inr (.inl rfl)
      | 3 => exact .inl rfl

/-- The stores of all 64 rows cover the block. -/
theorem stores_cover (y : S4x64x128x128.Idx) : ∃ p ∈ stores c pt eta phi en 64 (Nat.le_refl 64), y ∈ p.1.set := by
  refine ⟨store c pt eta phi en (y 0) (y 1), mem_stores c pt eta phi en 64 _ _ _ (y 1).isLt, ?_⟩
  rw [Rect.mem_set_unit]
  intro a
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, (y 2).isLt.trans_eq (Nat.zero_add 128).symm⟩
  | ⟨3, _⟩ => exact ⟨Nat.zero_le _, (y 3).isLt.trans_eq (Nat.zero_add 128).symm⟩

/-- After all stores the block's buffer reads as `block`, whatever it held before. -/
theorem read_stores {sig : RefSig} {κ : Kind} {sp : Space} (v : View sig κ sp S4x64x128x128 .bf16)
    (f : v.ty.Contents (Elt F)) :
    v.read (Elt F) (v.writes (Elt F) f (stores c pt eta phi en 64 (Nat.le_refl 64))) = block c pt eta phi en :=
  (View.read_writes_eq_canon v f _ (stores_cover c pt eta phi en)).trans
    (funext fun y => View.canon_apply_of_pieces _ _ (stores_eq c pt eta phi en 64 _) y (stores_cover c pt eta phi en y))

end Cert.Rows

end
-- ==== Proof.FrameKernelIdeal.lean ====
/- The run of KernelIdeal: what its body leaves in the output's buffer (`stored`: the block that Proof/Rows.lean states), the body's
   triple, and from these the launch's run and the frame. The launch's set-up is the generated one. -/
module

public import proofs.«01_k».proof.Proof.Rows
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The factor by which the kernel multiplies an angle before it rounds. -/
abbrev scale : F .f32 := Named.named κ "inv_two_pi" 0x3E22F983#32

/-- The load of a whole input block. -/
abbrev whole : Rect S64x128 := Rect.unit (s := S64x128) ![0, 0] S64x128.size inb_S64x128_S64x128_0_0

/-- What the body leaves in the output's buffer, of the four input blocks. -/
def stored (x0 : Vec F S64x128 .f32) (x1 : Vec F S64x128 .f32) (x2 : Vec F S64x128 .f32) (x3 : Vec F S64x128 .f32) : Vec F S4x64x128x128 .bf16 :=
  Rows.block scale (View.ld x0 whole) (View.ld x1 whole) (View.ld x2 whole) (View.ld x3 whole)

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments kept, from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      (((h c).2 main_arg4 (Pipeline.mem_restRefs_of main_arg4 (by decide) (by decide))).trans (W_main_arg4 m dats c))⟩) h

set_option maxHeartbeats 4724000 in
/-- The kernel body on whole staging memrefs, the inputs' at read contents `xW` and the outputs' at anything, runs to
    the continuation holding the inputs' as they were and the output's at `stored` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S64x128 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S4x64x128x128 .bf16) (harg5 : arg5.IsWhole)
    (x0 : Vec F S64x128 .f32) (x1 : Vec F S64x128 .f32) (x2 : Vec F S64x128 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (stored x0 x1 x2 x3)) -∗ K ⟨⟩))
      ⊢ wp frame (wpE (defs₀ (F := F)) Variants.none c none) E (cc0__feat_kernel i arg1 harg1 arg2 harg2 arg3 harg3 arg4 harg4 arg5 harg5) K := by
  simp only [cc0__feat_kernel_eq_skeleton]; unfold cc0__feat_kernel_skel
  simp only [k0_part195_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part196_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part197_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine Eq.trans ?_ (Rows.read_stores scale _ _ _ _ arg5.view f4)
  sl_kernel_rfl

/-! ## The pipeline's proof data -/

/-- The proof data of the one pipeline on core `c`: the arrays as the region finds them (`V`); after the body at
    point `t` each input's buffer at its block and the output's at `stored` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = stored (iblk m c 0 t) (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end as launched and every semaphore counter at zero: what Defs.lean claims of this program, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Scalar.lean ====
/- The scalar mathematics of one pair of particles over the extended reals: the quantities that the kernel computes for
   the pair and those that the reference computes, and that they are equal. -/
module

public import Idealize.ShloMosaic.PureOps.Ideal.Laws
public import Idealize.ShloMosaic.Lib.IdealHost
public import Mathlib.Tactic.Ring
public import Mathlib.Tactic.Linarith
public import Mathlib.Tactic.FieldSimp
public import Mathlib.Tactic.NormNum

@[expose] public section

noncomputable section

namespace Cert.Pair

open Idealize.ShloMosaic

/-! ## The constants -/

abbrev eps : EReal := Ideal.ofBits .f32 0x358637BD#32
abbrev half : EReal := Ideal.ofBits .f32 0x3F000000#32
abbrev one : EReal := Ideal.ofBits .f32 0x3F800000#32
abbrev two : EReal := Ideal.ofBits .f32 0x40000000#32
abbrev zero : EReal := Ideal.ofBits .f32 0x00000000#32
abbrev fullTurn : EReal := Ideal.ofBits .f32 0x40C90FDB#32
abbrev halfTurn : EReal := Ideal.ofBits .f32 0x40490FDB#32

/-- The full turn as a real number, and the factor that the kernel multiplies an angle by. -/
def turn : ℝ := 13176795 / 2097152
abbrev perTurn : EReal := ((2097152 / 13176795 : ℝ) : EReal)

theorem half_eq : half = ((1 / 2 : ℝ) : EReal) := by
  simp [half, Ideal.ofBits, Ideal.ieee, -EReal.coe_mul]; norm_num
theorem one_eq : one = 1 := Ideal.ofBits_one_f32
theorem two_eq : two = ((2 : ℝ) : EReal) := by
  simp [two, Ideal.ofBits, Ideal.ieee, -EReal.coe_mul]; norm_num
theorem zero_eq : zero = 0 := Ideal.ofBits_zero_f32
theorem fullTurn_eq : fullTurn = (turn : EReal) := by
  simp [fullTurn, turn, Ideal.ofBits, Ideal.ieee, -EReal.coe_mul]; norm_num
theorem halfTurn_eq : halfTurn = ((turn / 2 : ℝ) : EReal) := by
  simp [halfTurn, turn, Ideal.ofBits, Ideal.ieee, -EReal.coe_mul]; norm_num
theorem perTurn_eq : perTurn = ((1 / turn : ℝ) : EReal) := by
  unfold perTurn turn; congr 1; norm_num
theorem turn_pos : 0 < turn := by unfold turn; norm_num

/-! ## The hyperbolic sine by exponentials -/

theorem sinh_by_exp (x : EReal) : half * (Ideal.exp x - Ideal.div one (Ideal.exp x)) = Ideal.sinh x := by
  rw [half_eq, one_eq]
  induction x with
  | bot =>
    show ((1 / 2 : ℝ) : EReal) * (0 - Ideal.div 1 0) = ⊥
    have h : Ideal.div 1 0 = ⊤ := by simp [Ideal.div]
    rw [h, EReal.sub_top, EReal.coe_mul_bot_of_pos (by norm_num)]
  | top =>
    show ((1 / 2 : ℝ) : EReal) * (⊤ - Ideal.div 1 ⊤) = ⊤
    have h : Ideal.div 1 ⊤ = 0 := by simp [Ideal.div]
    rw [h, sub_zero, EReal.coe_mul_top_of_pos (by norm_num)]
  | coe r =>
    show ((1 / 2 : ℝ) : EReal) * ((Real.exp r : EReal) - Ideal.div 1 (Real.exp r : EReal)) = (Real.sinh r : EReal)
    have hne : ((Real.exp r : ℝ) : EReal) ≠ 0 := by exact_mod_cast (Real.exp_pos r).ne'
    have h : Ideal.div 1 (Real.exp r : EReal) = ((Real.exp (-r) : ℝ) : EReal) := by
      rw [Ideal.div, if_neg hne, one_mul, Real.exp_neg, EReal.coe_inv]
    rw [h, ← EReal.coe_sub, ← EReal.coe_mul, Real.sinh_eq]
    congr 1; ring

/-! ## The angle between two particles -/

/-- The kernel's angle difference: less its nearest whole number of turns. -/
def wrapK (c x : EReal) : EReal := x - fullTurn * Ideal.liftRound Ideal.roundHalfEven (x * c)

/-- The reference's remainder: the sign of the divisor. -/
def floorMod (x y : EReal) : EReal :=
  let r := Ideal.remf x y
  Scalar.select (IntOp.andi (IntOp.cmpi .ne (Ideal.cmp .olt r zero) (Ideal.cmp .olt y zero)) (Ideal.cmp .une r zero)) (r + y) r

/-- The distance from `s` to the nearest whole number. -/
def nearest (s : ℝ) : ℝ := min (Int.fract s) (1 - Int.fract s)

theorem nearest_neg (s : ℝ) : nearest (-s) = nearest s := by
  unfold nearest
  by_cases h : Int.fract s = 0
  · rw [(Int.fract_neg_eq_zero).mpr h, h]
  · rw [Int.fract_neg h, sub_sub_cancel, min_comm]

theorem round_sq (s : ℝ) : (s - (Ideal.roundHalfEven s : ℝ)) ^ 2 = nearest s ^ 2 := by
  have hf : s - (⌊s⌋ : ℝ) = Int.fract s := rfl
  unfold Ideal.roundHalfEven nearest
  simp only [hf]
  split_ifs with h1 h2 h3
  · rw [min_eq_left (by linarith), hf]
  · rw [min_eq_right (by linarith)]; push_cast; rw [← hf]; ring
  · have : Int.fract s = 1 / 2 := le_antisymm (not_lt.mp h2) (not_lt.mp h1)
    rw [hf, this]; norm_num
  · have : Int.fract s = 1 / 2 := le_antisymm (not_lt.mp h2) (not_lt.mp h1)
    push_cast; rw [← sub_sub, hf, this]; norm_num

theorem shifted_sq (s : ℝ) : (Int.fract (s + 1 / 2) - 1 / 2) ^ 2 = nearest s ^ 2 := by
  have h0 := Int.fract_nonneg s
  have h1 := Int.fract_lt_one s
  have hs : s = ⌊s⌋ + Int.fract s := (Int.floor_add_fract s).symm
  unfold nearest
  by_cases h : Int.fract s < 1 / 2
  · have : Int.fract (s + 1 / 2) = Int.fract s + 1 / 2 :=
      Int.fract_eq_iff.mpr ⟨by linarith, by linarith, ⌊s⌋, by linarith⟩
    rw [this, min_eq_left (by linarith)]; ring
  · have : Int.fract (s + 1 / 2) = Int.fract s - 1 / 2 :=
      Int.fract_eq_iff.mpr ⟨by linarith, by linarith, ⌊s⌋ + 1, by push_cast; linarith⟩
    rw [this, min_eq_right (by linarith)]; ring

/-- On the reals the corrected remainder is the fractional part of the quotient, scaled back. -/
theorem floorMod_coe (x y : ℝ) (hy : 0 < y) : floorMod (x : EReal) (y : EReal) = ((y * Int.fract (x / y) : ℝ) : EReal) := by
  have hr : Ideal.remf (x : EReal) (y : EReal) = ((x - y * (Ideal.truncInt (x / y) : ℝ) : ℝ) : EReal) := by
    show (if y = 0 then ⊥ else _) = _
    rw [if_neg hy.ne']
  have hx : x = y * (x / y) := by field_simp
  have hny : ¬ (y : EReal) < 0 := by exact_mod_cast hy.not_gt
  unfold floorMod
  simp only [hr, zero_eq]
  generalize hs : x / y = s at *
  have e : x - y * (Ideal.truncInt s : ℝ) = y * (s - (Ideal.truncInt s : ℝ)) := by rw [hx]; ring
  rw [e]
  have hfr : s - (⌊s⌋ : ℝ) = Int.fract s := rfl
  by_cases h : 0 ≤ s
  · have ht : Ideal.truncInt s = ⌊s⌋ := if_pos h
    have hn : ¬ ((y * Int.fract s : ℝ) : EReal) < 0 := by
      exact_mod_cast (mul_nonneg hy.le (Int.fract_nonneg s)).not_gt
    rw [ht, hfr]
    simp [Ideal.cmp, IntOp.andi, IntOp.cmpi, hn, hny, Scalar.select, -EReal.coe_mul]
  · have ht : Ideal.truncInt s = ⌈s⌉ := if_neg h
    by_cases hi : Int.fract s = 0
    · have hc : s - (⌈s⌉ : ℝ) = 0 := by
        obtain ⟨z, hz⟩ := Int.fract_eq_zero_iff.mp hi
        rw [← hz, Int.ceil_intCast]; simp
      rw [ht, hc, hi]
      simp [Ideal.cmp, IntOp.andi, IntOp.cmpi, Scalar.select]
    · have hc : s - (⌈s⌉ : ℝ) = Int.fract s - 1 := by
        have : (⌈s⌉ : ℝ) = ⌊s⌋ + 1 := by
          have := Int.ceil_eq_add_one_sub_fract hi
          rw [this, ← hfr]; ring
        rw [this, ← hfr]; ring
      have hneg : y * (Int.fract s - 1) < 0 := mul_neg_of_pos_of_neg hy (by linarith [Int.fract_lt_one s])
      have hl : ((y * (Int.fract s - 1) : ℝ) : EReal) < 0 := by exact_mod_cast hneg
      rw [ht, hc]
      have hs : y * (Int.fract s - 1) + y = y * Int.fract s := by ring
      rw [← hs, EReal.coe_add]
      simp [Ideal.cmp, IntOp.andi, IntOp.cmpi, hl, hny, hl.ne, Scalar.select, -EReal.coe_mul]

/-- The reference's angle difference. -/
def wrapR (x : EReal) : EReal := floorMod (x + halfTurn) fullTurn - halfTurn

/-- The square of the kernel's angle difference, on the reals. -/
theorem wrapK_sq_coe (x : ℝ) : wrapK perTurn x * wrapK perTurn x = ((turn ^ 2 * nearest (x / turn) ^ 2 : ℝ) : EReal) := by
  have ht := turn_pos.ne'
  have h : wrapK perTurn (x : EReal) = ((turn * (x / turn - (Ideal.roundHalfEven (x / turn) : ℝ)) : ℝ) : EReal) := by
    unfold wrapK
    rw [perTurn_eq, fullTurn_eq, ← EReal.coe_mul, Ideal.liftRound_coe, ← EReal.coe_mul, ← EReal.coe_sub, mul_one_div]
    congr 1; field_simp
  rw [h, ← EReal.coe_mul, ← round_sq]
  congr 1; ring

theorem wrapR_sq_coe (x : ℝ) : wrapR x * wrapR x = ((turn ^ 2 * nearest (x / turn) ^ 2 : ℝ) : EReal) := by
  have ht := turn_pos.ne'
  have h : wrapR (x : EReal) = ((turn * (Int.fract (x / turn + 1 / 2) - 1 / 2) : ℝ) : EReal) := by
    unfold wrapR
    rw [halfTurn_eq, fullTurn_eq, ← EReal.coe_add, floorMod_coe _ _ turn_pos, ← EReal.coe_sub]
    have : (x + turn / 2) / turn = x / turn + 1 / 2 := by field_simp
    rw [this]; congr 1; ring
  rw [h, ← EReal.coe_mul, ← shifted_sq]
  congr 1; ring

theorem wrapK_top : wrapK perTurn ⊤ = ⊥ := by
  unfold wrapK
  rw [perTurn_eq, fullTurn_eq, EReal.top_mul_coe_of_pos (one_div_pos.mpr turn_pos), Ideal.liftRound_top,
    EReal.coe_mul_top_of_pos turn_pos, EReal.sub_top]

theorem wrapK_bot : wrapK perTurn ⊥ = ⊥ := by
  unfold wrapK
  rw [perTurn_eq, fullTurn_eq, EReal.bot_mul_coe_of_pos (one_div_pos.mpr turn_pos), Ideal.liftRound_bot,
    EReal.coe_mul_bot_of_pos turn_pos]
  rfl

theorem floorMod_bot (y : ℝ) (hy : 0 < y) (x : EReal) (hx : Ideal.remf x y = ⊥) : floorMod x y = ⊥ := by
  unfold floorMod
  have hny : ¬ (y : EReal) < 0 := by exact_mod_cast hy.not_gt
  simp [hx, zero_eq, Ideal.cmp, IntOp.andi, IntOp.cmpi, hny, Scalar.select]

theorem wrapR_top : wrapR ⊤ = ⊥ := by
  unfold wrapR
  rw [halfTurn_eq, fullTurn_eq, EReal.top_add_coe, floorMod_bot _ turn_pos _ rfl]
  rfl

theorem wrapR_bot : wrapR ⊥ = ⊥ := by
  unfold wrapR
  rw [halfTurn_eq, fullTurn_eq, EReal.bot_add, floorMod_bot _ turn_pos _ rfl]
  rfl

/-- The two angle differences agree in the square. -/
theorem wrap_sq (x : EReal) : wrapK perTurn x * wrapK perTurn x = wrapR x * wrapR x := by
  induction x with
  | bot => rw [wrapK_bot, wrapR_bot]
  | top => rw [wrapK_top, wrapR_top]
  | coe r => rw [wrapK_sq_coe, wrapR_sq_coe]

/-- Exchanging the particles changes no square of an angle difference. -/
theorem wrap_sq_swap (a b : EReal) :
    wrapK perTurn (a - b) * wrapK perTurn (a - b) = wrapK perTurn (b - a) * wrapK perTurn (b - a) := by
  induction a with
  | bot =>
    induction b with
    | bot => rfl
    | top => show wrapK perTurn ⊥ * wrapK perTurn ⊥ = wrapK perTurn ⊤ * wrapK perTurn ⊤; rw [wrapK_bot, wrapK_top]
    | coe s => show wrapK perTurn ⊥ * wrapK perTurn ⊥ = wrapK perTurn ⊤ * wrapK perTurn ⊤; rw [wrapK_bot, wrapK_top]
  | top =>
    induction b with
    | bot => show wrapK perTurn ⊤ * wrapK perTurn ⊤ = wrapK perTurn ⊥ * wrapK perTurn ⊥; rw [wrapK_bot, wrapK_top]
    | top => rfl
    | coe s => show wrapK perTurn ⊤ * wrapK perTurn ⊤ = wrapK perTurn ⊥ * wrapK perTurn ⊥; rw [wrapK_bot, wrapK_top]
  | coe r =>
    induction b with
    | bot => show wrapK perTurn ⊤ * wrapK perTurn ⊤ = wrapK perTurn ⊥ * wrapK perTurn ⊥; rw [wrapK_bot, wrapK_top]
    | top => show wrapK perTurn ⊥ * wrapK perTurn ⊥ = wrapK perTurn ⊤ * wrapK perTurn ⊤; rw [wrapK_bot, wrapK_top]
    | coe s =>
      rw [← EReal.coe_sub, ← EReal.coe_sub, wrapK_sq_coe, wrapK_sq_coe, ← nearest_neg ((r - s) / turn), ← neg_div, neg_sub]

theorem gap_sq_swap (a b : EReal) : (a - b) * (a - b) = (b - a) * (b - a) := by
  induction a with
  | bot => induction b with | bot => rfl | top => rfl | coe s => rfl
  | top => induction b with | bot => rfl | top => rfl | coe s => rfl
  | coe r =>
    induction b with
    | bot => rfl
    | top => rfl
    | coe s => rw [← EReal.coe_sub, ← EReal.coe_sub, ← EReal.coe_mul, ← EReal.coe_mul]; congr 1; ring

/-! ## The mass of a pair -/

/-- A squared mass from the four components of a momentum. -/
def lorentz (e x y z : EReal) : EReal := e * e - x * x - y * y - z * z

/-- The kernel's squared mass of the sum of two momenta: by the two squared masses and the mixed product. -/
def massK (e x y z e' x' y' z' : EReal) : EReal :=
  lorentz e x y z + lorentz e' x' y' z' + two * (e * e' - x * x' - y * y' - z * z')

theorem finite_or_sq_top (x : EReal) : (∃ r : ℝ, x = r) ∨ x * x = ⊤ := by
  induction x with
  | bot => exact .inr rfl
  | top => exact .inr rfl
  | coe r => exact .inl ⟨r, rfl⟩

theorem finite_or_sum_sq_top (x x' : EReal) : ((∃ r : ℝ, x = r) ∧ ∃ r : ℝ, x' = r) ∨
    ((x * x = ⊤ ∨ x' * x' = ⊤) ∧ (x + x') * (x + x') = ⊤) := by
  induction x with
  | bot => exact .inr ⟨.inl rfl, by rw [EReal.bot_add]; rfl⟩
  | top =>
    induction x' with
    | bot => exact .inr ⟨.inl rfl, rfl⟩
    | top => exact .inr ⟨.inl rfl, rfl⟩
    | coe s => exact .inr ⟨.inl rfl, rfl⟩
  | coe r =>
    induction x' with
    | bot => exact .inr ⟨.inr rfl, rfl⟩
    | top => exact .inr ⟨.inr rfl, rfl⟩
    | coe s => exact .inl ⟨⟨r, rfl⟩, s, rfl⟩

theorem bot_sub (a : EReal) : ⊥ - a = ⊥ := by rw [sub_eq_add_neg, EReal.bot_add]

/-- One infinite component of the momentum makes the squared mass `⊥`. -/
theorem lorentz_bot (e x y z : EReal) (h : x * x = ⊤ ∨ y * y = ⊤ ∨ z * z = ⊤) : lorentz e x y z = ⊥ := by
  unfold lorentz
  rcases h with h | h | h
  · rw [h, EReal.sub_top, bot_sub, bot_sub]
  · rw [h, EReal.sub_top, bot_sub]
  · rw [h, EReal.sub_top]

theorem massK_bot (e x y z e' x' y' z' : EReal)
    (h : (x * x = ⊤ ∨ y * y = ⊤ ∨ z * z = ⊤) ∨ (x' * x' = ⊤ ∨ y' * y' = ⊤ ∨ z' * z' = ⊤)) :
    massK e x y z e' x' y' z' = ⊥ := by
  unfold massK
  rcases h with h | h
  · rw [lorentz_bot e x y z h, EReal.bot_add, EReal.bot_add]
  · rw [lorentz_bot e' x' y' z' h, EReal.add_bot, EReal.bot_add]

/-- Of two finite energies, the kernel's squared mass is that of the sum of the momenta. -/
theorem mass_eq (e x y z e' x' y' z' : EReal) (he : ∃ r : ℝ, e = r) (he' : ∃ r : ℝ, e' = r) :
    massK e x y z e' x' y' z' = lorentz (e + e') (x + x') (y + y') (z + z') := by
  rcases finite_or_sum_sq_top x x' with ⟨⟨x, rfl⟩, x', rfl⟩ | ⟨hx, hs⟩
  · rcases finite_or_sum_sq_top y y' with ⟨⟨y, rfl⟩, y', rfl⟩ | ⟨hy, hs⟩
    · rcases finite_or_sum_sq_top z z' with ⟨⟨z, rfl⟩, z', rfl⟩ | ⟨hz, hs⟩
      · obtain ⟨e, rfl⟩ := he
        obtain ⟨e', rfl⟩ := he'
        unfold massK lorentz
        rw [two_eq]
        simp only [← EReal.coe_mul, ← EReal.coe_sub, ← EReal.coe_add]
        congr 1; ring
      · rw [lorentz_bot _ _ _ _ (.inr (.inr hs)), massK_bot]
        rcases hz with h | h
        · exact .inl (.inr (.inr h))
        · exact .inr (.inr (.inr h))
    · rw [lorentz_bot _ _ _ _ (.inr (.inl hs)), massK_bot]
      rcases hy with h | h
      · exact .inl (.inr (.inl h))
      · exact .inr (.inr (.inl h))
  · rw [lorentz_bot _ _ _ _ (.inl hs), massK_bot]
    rcases hx with h | h
    · exact .inl (.inl h)
    · exact .inr (.inl h)

theorem massK_swap (e x y z e' x' y' z' : EReal) : massK e x y z e' x' y' z' = massK e' x' y' z' e x y z := by
  unfold massK
  rw [add_comm (lorentz e x y z), mul_comm e e', mul_comm x x', mul_comm y y', mul_comm z z']

end Cert.Pair

end
-- ==== Proof.Features.lean ====
/- The four features of one pair of particles: as the kernel computes them and as the reference does, equal where both
   energies are finite, and the same for the pair in either order. -/
module

public import proofs.«01_k».proof.Proof.Scalar

@[expose] public section

noncomputable section

namespace Cert.Pair

open Idealize.ShloMosaic

/-- One particle's arguments. -/
structure Particle where
  pt : EReal
  eta : EReal
  phi : EReal
  en : EReal

namespace Particle

variable (a : Particle)

def pz : EReal := a.pt * Ideal.sinh a.eta
def px : EReal := a.pt * Ideal.cos a.phi
def py : EReal := a.pt * Ideal.sin a.phi
def rap : EReal := half * Ideal.log (max eps (Ideal.div (max eps (a.en + a.pz)) (max eps (a.en - a.pz))))

end Particle

/-- `log (1 + x)`, of `x` no less than the small constant. -/
def clampLog (x : EReal) : EReal := Ideal.log (one + max eps x)

/-- The angular distance, from the squared gap in rapidity and the squared angle. -/
def reach (a b : Particle) (sq : EReal) : EReal :=
  clampLog (Ideal.sqrt ((a.rap - b.rap) * (a.rap - b.rap) + sq))

def share (a b : Particle) : EReal := Ideal.div (min a.pt b.pt) (a.pt + b.pt + eps)

/-- The features from a squared angle and a squared mass. -/
def features (f : Fin 4) (a b : Particle) (sq mass : EReal) : EReal :=
  match f with
  | 0 => reach a b sq
  | 1 => clampLog (min a.pt b.pt * reach a b sq)
  | 2 => clampLog (share a b)
  | 3 => clampLog mass

/-- The kernel's features. -/
def featK (f : Fin 4) (a b : Particle) : EReal :=
  features f a b (wrapK perTurn (a.phi - b.phi) * wrapK perTurn (a.phi - b.phi))
    (massK a.en a.px a.py a.pz b.en b.px b.py b.pz)

/-- The reference's features. -/
def featR (f : Fin 4) (a b : Particle) : EReal :=
  features f a b (wrapR (a.phi - b.phi) * wrapR (a.phi - b.phi))
    (lorentz (a.en + b.en) (a.px + b.px) (a.py + b.py) (a.pz + b.pz))

theorem featK_eq_featR (f : Fin 4) (a b : Particle) (ha : ∃ r : ℝ, a.en = r) (hb : ∃ r : ℝ, b.en = r) :
    featK f a b = featR f a b := by
  unfold featK featR
  rw [wrap_sq, mass_eq _ _ _ _ _ _ _ _ ha hb]

theorem reach_swap (a b : Particle) (sq : EReal) : reach a b sq = reach b a sq := by
  unfold reach
  rw [gap_sq_swap]

theorem featK_swap (f : Fin 4) (a b : Particle) : featK f a b = featK f b a := by
  unfold featK
  rw [wrap_sq_swap, massK_swap]
  unfold features share
  match f with
  | 0 => exact reach_swap a b _
  | 1 => simp only [reach_swap a b, min_comm a.pt]
  | 2 => simp only [min_comm a.pt, add_comm a.pt]
  | 3 => rfl

/-- One value per ordered pair of distinct particles and zero for a particle with itself: what either program's result
    holds of one row of particles. -/
def entry (f : Fin 4) (v : Fin 128 → Particle) (p q : Fin 128) : EReal :=
  if p = q then 0 else featK f (v p) (v q)

end Cert.Pair

end
-- ==== Proof.RowsIdeal.lean ====
/- The kernel's block over the extended reals, entry by entry: each matrix of Proof/Rows.lean at `(p, q)` is the scalar
   expression of Proof/Features.lean of particles `p` and `q`. -/
module

public import proofs.«01_k».proof.Proof.Rows
public import proofs.«01_k».proof.Proof.Features

@[expose] public section

set_option maxRecDepth 16384

noncomputable section

namespace Cert.Rows

open Idealize.ShloMosaic Cert.Pair

variable (r : Fin 64) (p q : Fin 128) (pt eta phi en : FVec Ideal S64x128 .f32)

/-- Particle `p` of row `r` of a block. -/
def part : Particle :=
  ⟨pt (ix2 (n0 := 64) (n1 := 128) r p), eta (ix2 (n0 := 64) (n1 := 128) r p), phi (ix2 (n0 := 64) (n1 := 128) r p),
    en (ix2 (n0 := 64) (n1 := 128) r p)⟩

theorem col_apply (v : FVec Ideal S64x128 .f32) :
    col r v (ix2 (n0 := 128) (n1 := 128) p q) = v (ix2 (n0 := 64) (n1 := 128) r p) := by
  unfold col
  pointwise

theorem row_apply (v : FVec Ideal S64x128 .f32) :
    row r v (ix2 (n0 := 128) (n1 := 128) p q) = v (ix2 (n0 := 64) (n1 := 128) r q) := by
  unfold row
  pointwise

theorem pz_apply : pz pt eta (ix2 (n0 := 64) (n1 := 128) r p) = (part r p pt eta phi en).pz :=
  congrArg (pt (ix2 (n0 := 64) (n1 := 128) r p) * ·) (sinh_by_exp (eta (ix2 (n0 := 64) (n1 := 128) r p)))

theorem px_apply : px pt phi (ix2 (n0 := 64) (n1 := 128) r p) = (part r p pt eta phi en).px := rfl
theorem py_apply : py pt phi (ix2 (n0 := 64) (n1 := 128) r p) = (part r p pt eta phi en).py := rfl

theorem rap_apply : rap pt eta en (ix2 (n0 := 64) (n1 := 128) r p) = (part r p pt eta phi en).rap := by
  unfold Particle.rap
  rw [← pz_apply]
  rfl

theorem mass_apply : mass pt eta phi en (ix2 (n0 := 64) (n1 := 128) r p)
    = lorentz (part r p pt eta phi en).en (part r p pt eta phi en).px (part r p pt eta phi en).py
        (part r p pt eta phi en).pz := by
  rw [← pz_apply]
  rfl

theorem clampLog_apply (x : FVec Ideal S128x128 .f32) (i : S128x128.Idx) :
    Rows.clampLog x i = Pair.clampLog (x i) := rfl

theorem wrapped_apply (c : EReal) : wrapped (F := Ideal) c r phi (ix2 (n0 := 128) (n1 := 128) p q)
    = wrapK c ((part r p pt eta phi en).phi - (part r q pt eta phi en).phi) := by
  have h : angle r phi (ix2 (n0 := 128) (n1 := 128) p q)
      = (part r p pt eta phi en).phi - (part r q pt eta phi en).phi :=
    congrArg₂ (fun x y : EReal => x - y) (col_apply r p q phi) (row_apply r p q phi)
  rw [← h]
  rfl

theorem rapGap_apply : rapGap r pt eta en (ix2 (n0 := 128) (n1 := 128) p q)
    = (part r p pt eta phi en).rap - (part r q pt eta phi en).rap :=
  congrArg₂ (fun x y : EReal => x - y) ((col_apply r p q _).trans (rap_apply r p pt eta phi en))
    ((row_apply r p q _).trans (rap_apply r q pt eta phi en))

theorem distance_apply (c : EReal) : distance (F := Ideal) c r pt eta phi en (ix2 (n0 := 128) (n1 := 128) p q)
    = reach (part r p pt eta phi en) (part r q pt eta phi en)
        (wrapK c ((part r p pt eta phi en).phi - (part r q pt eta phi en).phi)
          * wrapK c ((part r p pt eta phi en).phi - (part r q pt eta phi en).phi)) := by
  unfold reach
  rw [← rapGap_apply, ← wrapped_apply]
  rfl

theorem minPt_apply : minPt r pt (ix2 (n0 := 128) (n1 := 128) p q)
    = min (part r p pt eta phi en).pt (part r q pt eta phi en).pt :=
  congrArg₂ (fun x y : EReal => min x y) (col_apply r p q pt) (row_apply r p q pt)

theorem pairMass_apply : pairMass r pt eta phi en (ix2 (n0 := 128) (n1 := 128) p q)
    = massK (part r p pt eta phi en).en (part r p pt eta phi en).px (part r p pt eta phi en).py
        (part r p pt eta phi en).pz (part r q pt eta phi en).en (part r q pt eta phi en).px
        (part r q pt eta phi en).py (part r q pt eta phi en).pz := by
  unfold massK
  rw [← mass_apply, ← mass_apply, ← px_apply, ← px_apply, ← py_apply, ← py_apply, ← pz_apply, ← pz_apply,
    ← col_apply r p q (mass pt eta phi en), ← row_apply r p q (mass pt eta phi en),
    ← col_apply r p q (px pt phi), ← row_apply r p q (px pt phi), ← col_apply r p q (py pt phi),
    ← row_apply r p q (py pt phi), ← col_apply r p q (pz pt eta), ← row_apply r p q (pz pt eta),
    show (part r p pt eta phi en).en = col r en (ix2 (n0 := 128) (n1 := 128) p q) from (col_apply r p q en).symm,
    show (part r q pt eta phi en).en = row r en (ix2 (n0 := 128) (n1 := 128) p q) from (row_apply r p q en).symm]
  rfl

/-- Each feature of a row at a pair is the kernel's scalar feature of the pair's particles. -/
theorem feature_apply (f : Fin 4) : feature (F := Ideal) perTurn f r pt eta phi en (ix2 (n0 := 128) (n1 := 128) p q)
    = featK f (part r p pt eta phi en) (part r q pt eta phi en) := by
  match f with
  | 0 => exact distance_apply r p q pt eta phi en perTurn
  | 1 =>
    show Pair.clampLog (minPt r pt _ * distance (F := Ideal) perTurn r pt eta phi en _) = _
    rw [distance_apply, minPt_apply r p q pt eta phi en]
    rfl
  | 2 =>
    show Pair.clampLog (Ideal.div (minPt r pt _) (col r pt _ + row r pt _ + eps)) = _
    rw [minPt_apply r p q pt eta phi en, col_apply, row_apply]
    rfl
  | 3 =>
    show Pair.clampLog (pairMass r pt eta phi en _) = _
    rw [pairMass_apply]
    rfl

theorem offDiagonal_apply : offDiagonal (F := Ideal) (ix2 (n0 := 128) (n1 := 128) p q) = if p = q then 0 else 1 := by
  unfold offDiagonal
  pointwise
  have h : BitVec.ofNat 32 p.val = BitVec.ofNat 32 q.val ↔ p = q := by
    have hp := p.isLt; have hq := q.isLt
    refine ⟨fun h => Fin.ext ?_, fun h => h ▸ rfl⟩
    have := congrArg BitVec.toNat h
    rw [BitVec.toNat_ofNat, BitVec.toNat_ofNat] at this
    omega
  show (((BitVec.setWidth 32 (IntOp.cmpi .ne (BitVec.ofNat 32 p.val) (BitVec.ofNat 32 q.val))).toInt : ℝ) : EReal) = _
  by_cases e : p = q
  · simp [IntOp.cmpi, e]
  · have hb : (BitVec.ofNat 32 p.val != BitVec.ofNat 32 q.val) = true := bne_iff_ne.mpr fun he => e (h.mp he)
    have h1 : (BitVec.setWidth 32 (IntOp.cmpi .ne (BitVec.ofNat 32 p.val) (BitVec.ofNat 32 q.val))).toInt = 1 := by
      simp only [IntOp.cmpi, hb]
      decide
    rw [h1, if_neg e]
    simp

/-- The block at `(f, r, p, q)`. -/
theorem block_apply (f : Fin 4) :
    block (F := Ideal) perTurn pt eta phi en (ix4 (n0 := 4) (n1 := 64) (n2 := 128) (n3 := 128) f r p q)
      = entry f (fun p => part r p pt eta phi en) p q := by
  show feature (F := Ideal) perTurn f r pt eta phi en (ix2 (n0 := 128) (n1 := 128) p q)
    * offDiagonal (F := Ideal) (ix2 (n0 := 128) (n1 := 128) p q) = _
  rw [feature_apply, offDiagonal_apply]
  unfold entry
  split
  · rw [mul_zero]
  · rw [mul_one]

end Cert.Rows

end
-- ==== Proof.KernelValue.lean ====
/- What the kernel's run leaves in its results over the extended reals: the output array is covered by the four points'
   blocks, each the block that Proof/RowsIdeal.lean reads, and the operations after the launch only move the axis of the
   features to the end. -/
module

public import proofs.«01_k».proof.Proof.FrameKernelIdeal
public import proofs.«01_k».proof.Proof.RowsIdeal
public import Idealize.ShloMosaic.Lib.Pipeline.Value

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal.Gen Cert.Pair

variable (m : (ℓ : Loc nD τ sig) → Buf (Elt Ideal) ℓ) (ρ : Dev nD → PrngReg)

/-- Particle `p` of row `b` of the arguments. -/
def particle (c : Dev nD) (b : Fin 256) (p : Fin 128) : Particle :=
  ⟨m ((c : Thread nD τ).loc main_arg0) (ix2 (n0 := 256) (n1 := 128) b p), m ((c : Thread nD τ).loc main_arg1) (ix2 (n0 := 256) (n1 := 128) b p),
    m ((c : Thread nD τ).loc main_arg2) (ix2 (n0 := 256) (n1 := 128) b p), m ((c : Thread nD τ).loc main_arg3) (ix2 (n0 := 256) (n1 := 128) b p)⟩

/-- The output array of the launch. -/
def planes (c : Dev nD) : Buf (Elt Ideal) ((c : Thread nD τ).loc main_v0) :=
  fun i : S4x256x128x128.Idx => entry (i 0) (particle m c (i 1)) (i 2) (i 3)

theorem scale_eq : (scale : Ideal .f32) = perTurn :=
  (IdealRules.named_const.statement (κ := κ) (name := "inv_two_pi") .f32 0x3E22F983#32 perTurn rfl).2.2

theorem zeros : (![0, 0] : Fin 2 → Nat) = fun _ => 0 := funext fun a => by fin_cases a <;> rfl

theorem index_in (t : Fin cfg0.N) :
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  rcases fin_N0 t with rfl | rfl | rfl | rfl <;> decide

theorem index_out (t : Fin cfg0.N) :
    win0_4.index t 0 = 0 ∧ win0_4.index t 1 = t.val ∧ win0_4.index t 2 = 0 ∧ win0_4.index t 3 = 0 := by
  rcases fin_N0 t with rfl | rfl | rfl | rfl <;> decide

theorem xsize_out (t : Fin cfg0.N) :
    win0_4.xsize (grid0.coords t) 0 = 4 ∧ win0_4.xsize (grid0.coords t) 1 = 64
      ∧ win0_4.xsize (grid0.coords t) 2 = 128 ∧ win0_4.xsize (grid0.coords t) 3 = 128 := by
  rcases fin_N0 t with rfl | rfl | rfl | rfl <;> decide

theorem lt_rows (t : Fin cfg0.N) (r : Fin 64) : t.val * 64 + r.val < 256 := by
  have := t.isLt; have := r.isLt; have : cfg0.N = 4 := N_0
  omega

/-- Row `r` of point `t`'s blocks. -/
abbrev rowOf (t : Fin cfg0.N) (r : Fin 64) : Fin 256 := ⟨t.val * 64 + r.val, lt_rows t r⟩

/-- An argument read at the place that a point's block gives to `(r, p)`. -/
theorem read_at (t : Fin cfg0.N) (r : Fin 64) (p : Fin 128) (x : S256x128.Idx → EReal) (i : S256x128.Idx) (k l : Nat)
    (h : k = t.val ∧ l = 0) (h0 : (i 0).val = k * 64 + 1 * r.val) (h1 : (i 1).val = l * 128 + 1 * p.val) :
    x i = x (ix2 (n0 := 256) (n1 := 128) (rowOf t r) p) := by
  refine congrArg x (funext fun a => Fin.ext ?_)
  match a with
  | ⟨0, _⟩ => exact h0.trans (by rw [h.1, Nat.one_mul]; rfl)
  | ⟨1, _⟩ => exact h1.trans (by rw [h.2, Nat.one_mul, Nat.zero_mul, Nat.zero_add]; rfl)

/-- The particles of the four input blocks at a point are those of the arguments. -/
theorem part_iblk (c : Dev nD) (t : Fin cfg0.N) (r : Fin 64) (p : Fin 128) :
    Rows.part r p (iblk m c 0 t) (iblk m c 1 t) (iblk m c 2 t) (iblk m c 3 t) = particle m c (rowOf t r) p := by
  have h := index_in t
  unfold Rows.part particle iblk
  rw [Particle.mk.injEq]
  refine ⟨?_, ?_, ?_, ?_⟩
  · exact read_at t r p (m (c.tc.loc main_arg0)) _ _ _ h.1 rfl rfl
  · exact read_at t r p (m (c.tc.loc main_arg1)) _ _ _ h.2.1 rfl rfl
  · exact read_at t r p (m (c.tc.loc main_arg2)) _ _ _ h.2.2.1 rfl rfl
  · exact read_at t r p (m (c.tc.loc main_arg3)) _ _ _ h.2.2.2 rfl rfl

theorem stored_apply (c : Dev nD) (t : Fin cfg0.N) (f : Fin 4) (r : Fin 64) (p q : Fin 128) :
    stored (iblk m c 0 t) (iblk m c 1 t) (iblk m c 2 t) (iblk m c 3 t)
      (ix4 (n0 := 4) (n1 := 64) (n2 := 128) (n3 := 128) f r p q) = entry f (particle m c (rowOf t r)) p q := by
  unfold stored
  rw [View.ld_unit_zero zeros, View.ld_unit_zero zeros, View.ld_unit_zero zeros, View.ld_unit_zero zeros, scale_eq]
  refine (Rows.block_apply r p q _ _ _ _ f).trans ?_
  congr 1
  funext p
  exact part_iblk m c t r p

/-- What a point writes back is its block of the output array. -/
theorem flushed_eq (c : Dev nD) (t : Fin cfg0.N) :
    (dats m 0 c).flushed 4 t = (win0_4.blk t).view.read (Elt Ideal) (planes m c) := by
  show (cfg0.win 4).cut (grid0.coords t) ((dats m 0 c).after 4 t) = _
  rw [after0_4]
  have h := index_out t
  funext j
  rw [View.read_apply]
  obtain ⟨f, r, p, q, rfl⟩ : ∃ (f : Fin 4) (r : Fin 64) (p q : Fin 128),
      j = ix4 (n0 := 4) (n1 := 64) (n2 := 128) (n3 := 128) f r p q := ⟨j 0, j 1, j 2, j 3, eq_ix4 j⟩
  refine (stored_apply m c t f r p q).trans ?_
  show planes m c (ix4 (n0 := 4) (n1 := 256) (n2 := 128) (n3 := 128) f (rowOf t r) p q) = planes m c _
  refine congrArg (planes m c) (funext fun a => Fin.ext ?_)
  match a with
  | ⟨0, _⟩ => show f.val = win0_4.index t 0 * 4 + 1 * f.val; rw [h.1]; omega
  | ⟨1, _⟩ => show t.val * 64 + r.val = win0_4.index t 1 * 64 + 1 * r.val; rw [h.2.1]; omega
  | ⟨2, _⟩ => show p.val = win0_4.index t 2 * 128 + 1 * p.val; rw [h.2.2.1]; omega
  | ⟨3, _⟩ => show q.val = win0_4.index t 3 * 128 + 1 * q.val; rw [h.2.2.2]; omega

/-- The points' blocks fill the output array. -/
theorem cover (i : S4x256x128x128.Idx) :
    ∃ t : Fin cfg0.N, (cfg0.win 4).flush t = true ∧ i ∈ ((cfg0.win 4).blk t).view.set := by
  have h0 : (i 0 : Nat) < 4 := (i 0).isLt
  have h1 : (i 1 : Nat) < 256 := (i 1).isLt
  have h2 : (i 2 : Nat) < 128 := (i 2).isLt
  have h3 : (i 3 : Nat) < 128 := (i 3).isLt
  have hN : cfg0.N = 4 := N_0
  let t : Fin cfg0.N := ⟨(i 1 : Nat) / 64, by omega⟩
  have ht : t.val = (i 1 : Nat) / 64 := rfl
  refine ⟨t, flush0_4 t, ?_⟩
  show i ∈ ((View.whole main_v0).slice (win0_4.rect t)).set
  rw [View.set_slice_whole, Rect.mem_set_unit]
  have e := index_out t
  have x := xsize_out t
  intro a
  match a with
  | ⟨0, _⟩ => show win0_4.index t 0 * 4 ≤ (i 0 : Nat) ∧ (i 0 : Nat) < win0_4.index t 0 * 4 + win0_4.xsize (grid0.coords t) 0
              rw [e.1, x.1]; omega
  | ⟨1, _⟩ => show win0_4.index t 1 * 64 ≤ (i 1 : Nat) ∧ (i 1 : Nat) < win0_4.index t 1 * 64 + win0_4.xsize (grid0.coords t) 1
              rw [e.2.1, x.2.1]; omega
  | ⟨2, _⟩ => show win0_4.index t 2 * 128 ≤ (i 2 : Nat) ∧ (i 2 : Nat) < win0_4.index t 2 * 128 + win0_4.xsize (grid0.coords t) 2
              rw [e.2.2.1, x.2.2.1]; omega
  | ⟨3, _⟩ => show win0_4.index t 3 * 128 ≤ (i 3 : Nat) ∧ (i 3 : Nat) < win0_4.index t 3 * 128 + win0_4.xsize (grid0.coords t) 3
              rw [e.2.2.2, x.2.2.2]; omega

theorem final (c : Dev nD) : (dats m 0 c).arrAt 4 cfg0.N = planes m c :=
  (dats m 0 c).arrAt_eq_of_cover 4 (planes m c) (fun t _ => flushed_eq m c t) cover

/-! ## The operations after the launch -/

/-- The first result: row `b`'s features of the pair `(p, q)`. -/
def values (c : Dev nD) : Buf (Elt Ideal) ((c : Thread nD τ).loc main_v2) :=
  fun i : S256x128x128x4.Idx => entry (i 3) (particle m c (i 0)) (i 1) (i 2)

theorem tail_values (c : Dev nD) :
    Pipeline.afterTail₀ cfgs (dats m) 0 (V0 m) [hostOps1] c main_v2 = values m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_v0)
      = planes m c :=
    (Pipeline.withArrays_arr spec0 launch0.win.arr_inj c (V0 m c) (fun w => (dats m 0 c).arrAt w cfg0.N) 4).trans (final m c)
  rw [h]
  funext i
  obtain ⟨b, p, q, f, rfl⟩ : ∃ (b : Fin 256) (p q : Fin 128) (f : Fin 4),
      i = ix4 (n0 := 256) (n1 := 128) (n2 := 128) (n3 := 4) b p q f := ⟨i 0, i 1, i 2, i 3, eq_ix4 i⟩
  show transpose S256x128x128x4 [1, 2, 3, 0] (planes m c) transposes_S4x256x128x128_S256x128x128x4_1_2_3_0
    (ix4 (n0 := 256) (n1 := 128) (n2 := 128) (n3 := 4) b p q f) = _
  pointwise
  rfl

theorem tail_mask (c : Dev nD) :
    Pipeline.afterTail₀ cfgs (dats m) 0 (V0 m) [hostOps1] c main_v3 = fun _ => 0#1 := by
  unfold Pipeline.afterTail₀
  simp only [hostOps1, List.flatten_cons, List.flatten_nil, List.append_nil]
  after_results
  rfl

/-- The run, read at the results and the arguments. -/
theorem run_values : θ_run defs (onTc (τ := τ) (main (F := Ideal))) ⟨m, fun _ => 0, ρ⟩ fun r => ∀ c : Dev nD,
      r.2.mem ((c.tc : Thread nD τ).loc main_v2) = values m c
      ∧ r.2.mem ((c.tc : Thread nD τ).loc main_v3) = (fun _ => 0#1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v2 (Pipeline.mem_restRefs_of main_v2 (by decide) (by decide))).trans (tail_values m c),
        ((h.1 c).2 main_v3 (Pipeline.mem_restRefs_of main_v3 (by decide) (by decide))).trans (tail_mask m c), h.2 c⟩)
    (θ_run_and (run_main m ρ) (unchanged m ρ))

end Cert.KernelIdeal.Run

end
-- ==== Proof.Reads.lean ====
/- The reference's indexed operations read at one index: a column of index words that `jnp` has wrapped, the gather of a
   row's particles by such a column, and the scatter of the pairs' features by two such columns. -/
module

public import proofs.«01_k».proof.Proof.Gen.ReferenceIdeal
public import Idealize.ShloMosaic.Lib.Routing.OpsSet
public import Idealize.ShloMosaic.Lib.Routing.OpsPair
public import Idealize.ShloMosaic.Lib.Pointwise

@[expose] public section

set_option maxRecDepth 16384

noncomputable section

namespace Cert.ReferenceIdeal.Reads

open Idealize.ShloMosaic Idealize.ShloMosaic.Routing
open Cert.ReferenceIdeal Cert.ReferenceIdeal.Gen

/-- A vector of index words as `jnp` makes a column of it: a negative word counts from the end. -/
abbrev column (x : IVec S8128 32) : IVec S8128x1 32 :=
  broadcastInDim S8128x1 ![0] bcast_S8128_S8128x1_0 (select (cmpi .slt x (broadcastInDim S8128 ![] bcast_S_S8128 (constantI S_ 32 0#32))) (addi x (broadcastInDim S8128 ![] bcast_S_S8128 (constantI S_ 32 128#32))) x)

/-- A small particle's word in the column is the particle. -/
theorem column_apply (x : IVec S8128 32) (k : Fin 8128) (p : Fin 128) (h : x (ix1 (n0 := 8128) k) = BitVec.ofNat 32 p) :
    column x (ix2 (n0 := 8128) (n1 := 1) k 0) = BitVec.ofNat 32 p := by
  have hx : ∀ y : BitVec 32, y.toNat < 2 ^ 31 → Scalar.select (IntOp.cmpi .slt y 0#32) (IntOp.addi y 128#32) y = y :=
    fun y hy => wrap_of_lt y _ hy
  unfold column
  pointwise
  exact (hx _ (by rw [h, BitVec.toNat_ofNat]; omega)).trans h

theorem toInt_word (p : Fin 128) : (BitVec.ofNat 32 p).toInt = p.val :=
  StableHlo.Predicate.toInt_ofNat_small _ (p.isLt.trans (by decide))

theorem gather_apply {α : Type} (x : S256x128.Idx → α) (idx : IVec S8128x1 32) (b : Fin 256) (k : Fin 8128) (p : Fin 128)
    (h : idx (ix2 (n0 := 8128) (n1 := 1) k 0) = BitVec.ofNat 32 p) :
    Host.gather gather_S256x128_S8128x1_S256x8128_0_1_n_n_1_1_2561 x idx (ix2 (n0 := 256) (n1 := 8128) b k)
      = x (ix2 (n0 := 256) (n1 := 128) b p) := by
  unfold Host.gather
  refine congrArg x (funext fun a => Fin.ext ?_)
  match a with
  | ⟨0, _⟩ => exact Nat.zero_add b.val
  | ⟨1, _⟩ =>
    have e : gather_S256x128_S8128x1_S256x8128_0_1_n_n_1_1_2561.siIdx (ix2 (n0 := 256) (n1 := 8128) b k) ⟨0, Nat.one_pos⟩
        = ix2 (n0 := 8128) (n1 := 1) k 0 := by
      funext c
      match c with
      | ⟨0, _⟩ => rfl
      | ⟨1, _⟩ => rfl
    show min (idx (gather_S256x128_S8128x1_S256x8128_0_1_n_n_1_1_2561.siIdx (ix2 (n0 := 256) (n1 := 8128) b k) ⟨0, Nat.one_pos⟩)).toInt.toNat 127 + 0 + 0 = p.val
    rw [e, h, toInt_word]
    have := p.isLt
    omega

/-- Update `(b, k, f)` lands at row `b`, particles `p` and `q` of its two index words, and feature `f`. -/
theorem lands (idx : IVec S8128x2 32) (b b' : Fin 256) (k : Fin 8128) (f f' : Fin 4) (p q p' q' : Fin 128)
    (hp : idx (ix2 (n0 := 8128) (n1 := 2) k 0) = BitVec.ofNat 32 p) (hq : idx (ix2 (n0 := 8128) (n1 := 2) k 1) = BitVec.ofNat 32 q) :
    scatter_S256x128x128x4_S8128x2_S256x8128x4_02_12_12_1.resultIdx? (ix3 (n0 := 256) (n1 := 8128) (n2 := 4) b k f) idx
        = some (ix4 (n0 := 256) (n1 := 128) (n2 := 128) (n3 := 4) b' p' q' f')
      ↔ b = b' ∧ p = p' ∧ q = q' ∧ f = f' := by
  have e0 : scatter_S256x128x128x4_S8128x2_S256x8128x4_02_12_12_1.siIdx (ix3 (n0 := 256) (n1 := 8128) (n2 := 4) b k f) ⟨0, Nat.two_pos⟩
      = ix2 (n0 := 8128) (n1 := 2) k 0 := by
    funext c
    match c with
    | ⟨0, _⟩ => rfl
    | ⟨1, _⟩ => rfl
  have e1 : scatter_S256x128x128x4_S8128x2_S256x8128x4_02_12_12_1.siIdx (ix3 (n0 := 256) (n1 := 8128) (n2 := 4) b k f) ⟨1, Nat.one_lt_two⟩
      = ix2 (n0 := 8128) (n1 := 2) k 1 := by
    funext c
    match c with
    | ⟨0, _⟩ => rfl
    | ⟨1, _⟩ => rfl
  rw [resultIdx?_eq_some]
  have h0 : scatter_S256x128x128x4_S8128x2_S256x8128x4_02_12_12_1.start (ix3 (n0 := 256) (n1 := 8128) (n2 := 4) b k f) idx 1 = p.val := by
    rw [← toInt_word, ← hp, ← e0]
    rfl
  have h1 : scatter_S256x128x128x4_S8128x2_S256x8128x4_02_12_12_1.start (ix3 (n0 := 256) (n1 := 8128) (n2 := 4) b k f) idx 2 = q.val := by
    rw [← toInt_word, ← hq, ← e1]
    rfl
  constructor
  · intro h
    have a0 : (0 : Int) + (b.val : Int) = b'.val := h 0
    have a1 := h 1
    have a2 := h 2
    have a3 : (0 : Int) + (f.val : Int) = f'.val := h 3
    rw [h0] at a1
    rw [h1] at a2
    have a1' : (p.val : Int) + ((0 : Nat) : Int) = p'.val := a1
    have a2' : (q.val : Int) + ((0 : Nat) : Int) = q'.val := a2
    exact ⟨Fin.ext (by omega), Fin.ext (by omega), Fin.ext (by omega), Fin.ext (by omega)⟩
  · rintro ⟨rfl, rfl, rfl, rfl⟩ a
    match a with
    | ⟨0, _⟩ => exact Int.zero_add (b.val : Int)
    | ⟨1, _⟩ => exact (congrArg (· + ((0 : Nat) : Int)) h0).trans (Int.add_zero _)
    | ⟨2, _⟩ => exact (congrArg (· + ((0 : Nat) : Int)) h1).trans (Int.add_zero _)
    | ⟨3, _⟩ => exact Int.zero_add (f.val : Int)

/-- Two columns side by side. -/
abbrev columns (x y : IVec S8128x1 32) : IVec S8128x2 32 :=
  concatenate S8128x2 1 [⟨S8128x1, x⟩, ⟨S8128x1, y⟩] concatenates_S8128x1_S8128x1_S8128x2_d1

theorem columns_apply0 (x y : IVec S8128x1 32) (k : Fin 8128) :
    columns x y (ix2 (n0 := 8128) (n1 := 2) k 0) = x (ix2 (n0 := 8128) (n1 := 1) k 0) := by
  unfold columns
  pointwise

theorem columns_apply1 (x y : IVec S8128x1 32) (k : Fin 8128) :
    columns x y (ix2 (n0 := 8128) (n1 := 2) k 1) = y (ix2 (n0 := 8128) (n1 := 1) k 0) := by
  unfold columns
  pointwise

/-- The scatter by two columns of particles `g` and `h`, each pair of which is named at most by updates of one value: at a
    named pair that value, elsewhere the operand. -/
theorem scatter_hit {α : Type} (x0 : S256x128x128x4.Idx → α) (x y : IVec S8128x1 32) (upd : S256x8128x4.Idx → α) (g h : Fin 8128 → Fin 128)
    (hx : ∀ k, x (ix2 (n0 := 8128) (n1 := 1) k 0) = BitVec.ofNat 32 (g k)) (hy : ∀ k, y (ix2 (n0 := 8128) (n1 := 1) k 0) = BitVec.ofNat 32 (h k))
    (b : Fin 256) (p q : Fin 128) (f : Fin 4) (v : α)
    (hv : ∀ k, g k = p → h k = q → upd (ix3 (n0 := 256) (n1 := 8128) (n2 := 4) b k f) = v) (he : ∃ k, g k = p ∧ h k = q) :
    Host.scatter scatter_S256x128x128x4_S8128x2_S256x8128x4_02_12_12_1 (fun _ b => b) x0 (columns x y) upd
      (ix4 (n0 := 256) (n1 := 128) (n2 := 128) (n3 := 4) b p q f) = v := by
  obtain ⟨k, hp, hq⟩ := he
  have hl := fun (b' : Fin 256) (k : Fin 8128) (f' : Fin 4) => lands (columns x y) b' b k f' f (g k) (h k) p q
    ((columns_apply0 x y k).trans (hx k)) ((columns_apply1 x y k).trans (hy k))
  refine scatter_set_hit _ _ _ _ _ _ (fun j hj => ?_) (ix3 (n0 := 256) (n1 := 8128) (n2 := 4) b k f) ((hl b k f).2 ⟨rfl, hp, hq, rfl⟩)
  rw [eq_ix3 j] at hj ⊢
  obtain ⟨e0, ep, eq, e3⟩ := (hl _ _ _).1 hj
  rw [e0, e3]
  exact hv _ ep eq

theorem scatter_miss {α : Type} (x0 : S256x128x128x4.Idx → α) (x y : IVec S8128x1 32) (upd : S256x8128x4.Idx → α) (g h : Fin 8128 → Fin 128)
    (hx : ∀ k, x (ix2 (n0 := 8128) (n1 := 1) k 0) = BitVec.ofNat 32 (g k)) (hy : ∀ k, y (ix2 (n0 := 8128) (n1 := 1) k 0) = BitVec.ofNat 32 (h k))
    (b : Fin 256) (p q : Fin 128) (f : Fin 4) (hn : ∀ k, ¬(g k = p ∧ h k = q)) :
    Host.scatter scatter_S256x128x128x4_S8128x2_S256x8128x4_02_12_12_1 (fun _ b => b) x0 (columns x y) upd
      (ix4 (n0 := 256) (n1 := 128) (n2 := 128) (n3 := 4) b p q f) = x0 (ix4 (n0 := 256) (n1 := 128) (n2 := 128) (n3 := 4) b p q f) := by
  refine scatter_set_miss _ _ _ _ _ fun j hj => ?_
  rw [eq_ix3 j] at hj
  have hl := (lands (columns x y) _ b _ _ f (g (j 1)) (h (j 1)) p q
    ((columns_apply0 x y _).trans (hx _)) ((columns_apply1 x y _).trans (hy _))).1 hj
  exact hn _ ⟨hl.2.1, hl.2.2.1⟩

end Cert.ReferenceIdeal.Reads

end
-- ==== Proof.Tables.lean ====
/- The two tables of the reference: entry `k` names a pair of particles, the first table the greater and the second the
   smaller, and every pair is named. -/
module

public import proofs.«01_k».proof.ReferenceIdeal

@[expose] public section

noncomputable section

namespace Cert.ReferenceIdeal.Tables

open Idealize.ShloMosaic

/-- The place of the pair `(p, q)`, `q < p`, in the tables. -/
def place (p q : Nat) : Nat := p * (p - 1) / 2 + q

set_option maxRecDepth 100000 in
/-- At its place the tables hold the pair. -/
theorem lit_place : ∀ p : Fin 128, ∀ q : Fin 128, q < p →
    lit0t (place p q) = BitVec.ofNat 32 p ∧ lit1t (place p q) = BitVec.ofNat 32 q := by
  decide +kernel

end Cert.ReferenceIdeal.Tables

end
-- ==== Proof.Pairs.lean ====
/- The pairs that the reference's two tables name, in order: at every entry the greater particle stands in the first table
   and the smaller in the second, and every pair has an entry. -/
module

public import proofs.«01_k».proof.Proof.Tables
public import Mathlib.Tactic.Ring

@[expose] public section

noncomputable section

namespace Cert.ReferenceIdeal.Tables

open Idealize.ShloMosaic

/-- A row of the triangle is as long as its number. -/
theorem place_next_row (p : Nat) : place (p + 1) 0 = place p 0 + p := by
  unfold place
  have h : (p + 1) * (p + 1 - 1) = p * (p - 1) + 2 * p := by
    cases p with
    | zero => rfl
    | succ n => simp only [Nat.add_sub_cancel]; ring
  rw [h]
  omega

theorem place_add (p q : Nat) : place p q = place p 0 + q := rfl

/-- The rows of the triangle follow one another. -/
theorem place_mono {p p' : Nat} (h : p ≤ p') : place p 0 ≤ place p' 0 := by
  induction h with
  | refl => exact Nat.le_refl _
  | step _ ih => exact ih.trans (by rw [place_next_row]; exact Nat.le_add_right _ _)

/-- A pair of particles has its place in the tables. -/
theorem place_lt {p q : Nat} (hq : q < p) (hp : p < 128) : place p q < 8128 := by
  have h : place (p + 1) 0 ≤ place 128 0 := place_mono hp
  have e : place 128 0 = 8128 := rfl
  rw [place_next_row, e] at h
  rw [place_add]
  omega

/-- Every number is the place of a pair. -/
theorem exists_place (k : Nat) : ∃ p q, q < p ∧ place p q = k := by
  induction k with
  | zero => exact ⟨1, 0, Nat.one_pos, rfl⟩
  | succ k ih =>
    obtain ⟨p, q, hq, h⟩ := ih
    by_cases e : q + 1 < p
    · exact ⟨p, q + 1, e, congrArg (· + 1) h⟩
    · refine ⟨p + 1, 0, Nat.succ_pos p, ?_⟩
      rw [place_next_row]
      rw [place_add] at h
      omega

/-- Every entry of the tables is the entry of a pair. -/
theorem exists_pair (k : Fin 8128) : ∃ p q : Fin 128, q < p ∧ place p q = k ∧ lit0 k = BitVec.ofNat 32 p ∧ lit1 k = BitVec.ofNat 32 q := by
  obtain ⟨p, q, hq, h⟩ := exists_place k.val
  have hp : p < 128 := by
    by_contra c
    have h1 : place 128 0 ≤ place p 0 := place_mono (by omega)
    have e : place 128 0 = 8128 := rfl
    have hk := k.isLt
    rw [place_add] at h
    omega
  have t := lit_place ⟨p, hp⟩ ⟨q, hq.trans hp⟩ hq
  refine ⟨⟨p, hp⟩, ⟨q, hq.trans hp⟩, hq, h, ?_, ?_⟩
  · exact (congrArg lit0t h.symm).trans t.1
  · exact (congrArg lit1t h.symm).trans t.2

/-- The greater particle of entry `k`. -/
def greater (k : Fin 8128) : Fin 128 := (exists_pair k).choose
/-- The smaller particle of entry `k`. -/
def smaller (k : Fin 8128) : Fin 128 := (exists_pair k).choose_spec.choose

theorem smaller_lt (k : Fin 8128) : smaller k < greater k := (exists_pair k).choose_spec.choose_spec.1
theorem place_pair (k : Fin 8128) : place (greater k) (smaller k) = k := (exists_pair k).choose_spec.choose_spec.2.1
theorem lit0_eq (k : Fin 8128) : lit0 k = BitVec.ofNat 32 (greater k) := (exists_pair k).choose_spec.choose_spec.2.2.1
theorem lit1_eq (k : Fin 8128) : lit1 k = BitVec.ofNat 32 (smaller k) := (exists_pair k).choose_spec.choose_spec.2.2.2

/-- A small natural number is read back off its word. -/
theorem word_inj {p q : Fin 128} (h : BitVec.ofNat 32 p = BitVec.ofNat 32 q) : p = q := by
  have := congrArg BitVec.toNat h
  rw [BitVec.toNat_ofNat, BitVec.toNat_ofNat] at this
  have := p.isLt; have := q.isLt
  exact Fin.ext (by omega)

/-- Every pair has an entry. -/
theorem exists_entry {p q : Fin 128} (h : q < p) : ∃ k, greater k = p ∧ smaller k = q := by
  have t := lit_place p q h
  refine ⟨⟨place p q, place_lt h p.isLt⟩, ?_, ?_⟩
  · exact word_inj ((lit0_eq _).symm.trans t.1)
  · exact word_inj ((lit1_eq _).symm.trans t.2)

end Cert.ReferenceIdeal.Tables

end
-- ==== Proof.ReferenceValue.lean ====
/- What the reference's run leaves in its results over the extended reals, from its named intermediate arrays: each is read
   at row `b` and entry `k` of the tables, where it is an expression of the two particles of the entry. -/
module

public import proofs.«01_k».proof.Proof.Gen.ReferenceIdeal.Run
public import proofs.«01_k».proof.Proof.Reads
public import proofs.«01_k».proof.Proof.Pairs
public import proofs.«01_k».proof.Proof.Features

@[expose] public section

set_option maxRecDepth 16384

noncomputable section

namespace Cert.ReferenceIdeal.Entries

open Idealize.ShloMosaic Idealize.ShloMosaic.TcCoe
open Cert.ReferenceIdeal Cert.ReferenceIdeal.Gen Cert.ReferenceIdeal.Value Cert.ReferenceIdeal.Reads Cert.ReferenceIdeal.Tables Cert.Pair

variable (V0 : Valuation τ sig (Elt Ideal)) (b : Fin 256) (k : Fin 8128)

/-- The arguments as arrays. -/
abbrev argPt : S256x128.Idx → EReal := V0 (Proc.devRef .tc main_arg0)
abbrev argEta : S256x128.Idx → EReal := V0 (Proc.devRef .tc main_arg1)
abbrev argPhi : S256x128.Idx → EReal := V0 (Proc.devRef .tc main_arg2)
abbrev argEn : S256x128.Idx → EReal := V0 (Proc.devRef .tc main_arg3)
abbrev argMask : S256x128.Idx → BitVec 1 := V0 (Proc.devRef .tc main_arg4)

/-- Particle `p` of row `b` of the arguments. -/
def particle (p : Fin 128) : Particle :=
  ⟨argPt V0 (ix2 (n0 := 256) (n1 := 128) b p), argEta V0 (ix2 (n0 := 256) (n1 := 128) b p),
    argPhi V0 (ix2 (n0 := 256) (n1 := 128) b p), argEn V0 (ix2 (n0 := 256) (n1 := 128) b p)⟩

/-- The entry's two particles. -/
abbrev fst : Particle := particle V0 b (greater k)
abbrev snd : Particle := particle V0 b (smaller k)

theorem c_apply : column (res_main_c V0) (ix2 (n0 := 8128) (n1 := 1) k 0) = BitVec.ofNat 32 (greater k) :=
  column_apply _ k _ ((congrArg lit0 (Fin.ext (Shape.rowMajor_val_one _))).trans (lit0_eq k))

theorem c0_apply : column (res_main_c_0 V0) (ix2 (n0 := 8128) (n1 := 1) k 0) = BitVec.ofNat 32 (smaller k) :=
  column_apply _ k _ ((congrArg lit1 (Fin.ext (Shape.rowMajor_val_one _))).trans (lit1_eq k))

/-- An array of particles read at the first and at the second particle of every entry. -/
abbrev take0 {α : Type} (x : S256x128.Idx → α) : S256x8128.Idx → α :=
  Host.gather gather_S256x128_S8128x1_S256x8128_0_1_n_n_1_1_2561 x (column (res_main_c V0))
abbrev take1 {α : Type} (x : S256x128.Idx → α) : S256x8128.Idx → α :=
  Host.gather gather_S256x128_S8128x1_S256x8128_0_1_n_n_1_1_2561 x (column (res_main_c_0 V0))

theorem take0_apply {α : Type} (x : S256x128.Idx → α) :
    take0 V0 x (ix2 (n0 := 256) (n1 := 8128) b k) = x (ix2 (n0 := 256) (n1 := 128) b (greater k)) :=
  gather_apply x _ b k _ (c_apply V0 k)
theorem take1_apply {α : Type} (x : S256x128.Idx → α) :
    take1 V0 x (ix2 (n0 := 256) (n1 := 8128) b k) = x (ix2 (n0 := 256) (n1 := 128) b (smaller k)) :=
  gather_apply x _ b k _ (c0_apply V0 k)

/-! ## Particle by particle -/

variable (p : Fin 128)

theorem v1_apply : res_main_v1 V0 (ix2 (n0 := 256) (n1 := 128) b p) = (particle V0 b p).pz := rfl
theorem v77_apply : res_main_v77 V0 (ix2 (n0 := 256) (n1 := 128) b p) = (particle V0 b p).px := rfl
theorem v79_apply : res_main_v79 V0 (ix2 (n0 := 256) (n1 := 128) b p) = (particle V0 b p).py := rfl

theorem v10_apply : res_main_v10 V0 (ix2 (n0 := 256) (n1 := 128) b p) = (particle V0 b p).rap := by
  unfold Particle.rap
  rw [← v1_apply]
  rfl

/-! ## Pair by pair -/

theorem log1p_apply (x : FVec Ideal S256x8128 .f32) (i : S256x8128.Idx) :
    Host.log1p (maximumf (broadcastInDim S256x8128 ![] bcast_S_S256x8128 (id (constant S_ .f32 0x358637BD#32))) x) i = clampLog (x i) := by
  unfold clampLog
  rw [one_eq]
  rfl

theorem v45_apply : res_main_v45 V0 (ix2 (n0 := 256) (n1 := 8128) b k) = (fst V0 b k).rap - (snd V0 b k).rap :=
  congrArg₂ (fun x y : EReal => x - y) ((take0_apply V0 b k (res_main_v10 V0)).trans (v10_apply V0 b _))
    ((take1_apply V0 b k (res_main_v10 V0)).trans (v10_apply V0 b _))

theorem remainder_apply : res_main_call3_v2 V0 (ix2 (n0 := 256) (n1 := 8128) b k)
    = Ideal.remf ((fst V0 b k).phi - (snd V0 b k).phi + halfTurn) fullTurn :=
  congrArg₂ (fun x y : EReal => Ideal.remf (x - y + halfTurn) fullTurn) (take0_apply V0 b k (argPhi V0)) (take1_apply V0 b k (argPhi V0))

theorem v30_apply : res_main_v30 V0 (ix2 (n0 := 256) (n1 := 8128) b k) = wrapR ((fst V0 b k).phi - (snd V0 b k).phi) := by
  unfold wrapR floorMod
  rw [← remainder_apply]
  rfl

theorem v51_apply : res_main_v51 V0 (ix2 (n0 := 256) (n1 := 8128) b k)
    = reach (fst V0 b k) (snd V0 b k) (wrapR ((fst V0 b k).phi - (snd V0 b k).phi) * wrapR ((fst V0 b k).phi - (snd V0 b k).phi)) := by
  unfold reach
  rw [← v45_apply, ← v30_apply]
  exact log1p_apply _ _

theorem v58_apply : res_main_v58 V0 (ix2 (n0 := 256) (n1 := 8128) b k) = (fst V0 b k).pt := take0_apply V0 b k (argPt V0)
theorem v65_apply : res_main_v65 V0 (ix2 (n0 := 256) (n1 := 8128) b k) = (snd V0 b k).pt := take1_apply V0 b k (argPt V0)

theorem v66_apply : res_main_v66 V0 (ix2 (n0 := 256) (n1 := 8128) b k) = min (fst V0 b k).pt (snd V0 b k).pt :=
  congrArg₂ (fun x y : EReal => min x y) (v58_apply V0 b k) (v65_apply V0 b k)

theorem v94_apply : res_main_v94 V0 (ix2 (n0 := 256) (n1 := 8128) b k) = (fst V0 b k).px + (snd V0 b k).px :=
  congrArg₂ (fun x y : EReal => x + y) ((take0_apply V0 b k (res_main_v77 V0)).trans (v77_apply V0 b _))
    ((take1_apply V0 b k (res_main_v77 V0)).trans (v77_apply V0 b _))

theorem v109_apply : res_main_v109 V0 (ix2 (n0 := 256) (n1 := 8128) b k) = (fst V0 b k).py + (snd V0 b k).py :=
  congrArg₂ (fun x y : EReal => x + y) ((take0_apply V0 b k (res_main_v79 V0)).trans (v79_apply V0 b _))
    ((take1_apply V0 b k (res_main_v79 V0)).trans (v79_apply V0 b _))

theorem v124_apply : res_main_v124 V0 (ix2 (n0 := 256) (n1 := 8128) b k) = (fst V0 b k).pz + (snd V0 b k).pz :=
  congrArg₂ (fun x y : EReal => x + y) ((take0_apply V0 b k (res_main_v1 V0)).trans (v1_apply V0 b _))
    ((take1_apply V0 b k (res_main_v1 V0)).trans (v1_apply V0 b _))

theorem v139_apply : res_main_v139 V0 (ix2 (n0 := 256) (n1 := 8128) b k) = (fst V0 b k).en + (snd V0 b k).en :=
  congrArg₂ (fun x y : EReal => x + y) (take0_apply V0 b k (argEn V0)) (take1_apply V0 b k (argEn V0))

/-- The four features of every entry, before they are stacked. -/
def stacked (f : Fin 4) : FVec Ideal S256x8128 .f32 :=
  match f with
  | 0 => res_main_v51 V0
  | 1 => Host.log1p (maximumf (broadcastInDim S256x8128 ![] bcast_S_S256x8128 (id (constant S_ .f32 0x358637BD#32))) (mulf (res_main_v66 V0) (res_main_v51 V0)))
  | 2 => Host.log1p (maximumf (broadcastInDim S256x8128 ![] bcast_S_S256x8128 (id (constant S_ .f32 0x358637BD#32))) (Host.divf (res_main_v66 V0) (addf (addf (res_main_v58 V0) (res_main_v65 V0)) (broadcastInDim S256x8128 ![] bcast_S_S256x8128 (constant S_ .f32 0x358637BD#32)))))
  | 3 => Host.log1p (maximumf (broadcastInDim S256x8128 ![] bcast_S_S256x8128 (id (constant S_ .f32 0x358637BD#32))) (subf (subf (subf (mulf (res_main_v139 V0) (res_main_v139 V0)) (mulf (res_main_v94 V0) (res_main_v94 V0))) (mulf (res_main_v109 V0) (res_main_v109 V0))) (mulf (res_main_v124 V0) (res_main_v124 V0))))

theorem stacked_apply (f : Fin 4) : stacked V0 f (ix2 (n0 := 256) (n1 := 8128) b k) = featR f (fst V0 b k) (snd V0 b k) := by
  match f with
  | 0 => exact v51_apply V0 b k
  | 1 =>
    refine (log1p_apply _ _).trans (congrArg clampLog ?_)
    exact congrArg₂ (fun x y : EReal => x * y) (v66_apply V0 b k) (v51_apply V0 b k)
  | 2 =>
    refine (log1p_apply _ _).trans (congrArg clampLog ?_)
    unfold share
    rw [← v66_apply, ← v58_apply, ← v65_apply]
    rfl
  | 3 =>
    refine (log1p_apply _ _).trans (congrArg clampLog ?_)
    rw [← v139_apply, ← v94_apply, ← v109_apply, ← v124_apply]
    rfl

theorem mask_apply (hm : ∀ i, argMask V0 i = 0#1) :
    IntOp.ori (take0 V0 (argMask V0) (ix2 (n0 := 256) (n1 := 8128) b k)) (take1 V0 (argMask V0) (ix2 (n0 := 256) (n1 := 8128) b k)) = 0#1 := by
  rw [take0_apply, take1_apply, hm, hm]
  rfl

theorem unmasked (hm : ∀ i, argMask V0 i = 0#1) (x y : EReal) :
    Scalar.select (IntOp.ori (take0 V0 (argMask V0) (ix2 (n0 := 256) (n1 := 8128) b k)) (take1 V0 (argMask V0) (ix2 (n0 := 256) (n1 := 8128) b k))) x y = y := by
  rw [mask_apply V0 b k hm]
  rfl

/-- Where no particle is masked the updates are the features. -/
theorem v170_apply (hm : ∀ i, argMask V0 i = 0#1) (f : Fin 4) :
    res_main_v170 V0 (ix3 (n0 := 256) (n1 := 8128) (n2 := 4) b k f) = featR f (fst V0 b k) (snd V0 b k) := by
  have h : res_main_v170 V0 = select
      (broadcastInDim S256x8128x4 ![0, 1, 2] bcast_S256x8128x1_S256x8128x4_0_1_2 (broadcastInDim S256x8128x1 ![0, 1] bcast_S256x8128_S256x8128x1_0_1 (ori (take0 V0 (argMask V0)) (take1 V0 (argMask V0)))))
      (broadcastInDim S256x8128x4 ![] bcast_S_S256x8128x4 (id (constant S_ .f32 0x00000000#32)))
      (concatenate S256x8128x4 2 [⟨S256x8128x1, broadcastInDim S256x8128x1 ![0, 1] bcast_S256x8128_S256x8128x1_0_1 (stacked V0 0)⟩,
        ⟨S256x8128x1, broadcastInDim S256x8128x1 ![0, 1] bcast_S256x8128_S256x8128x1_0_1 (stacked V0 1)⟩,
        ⟨S256x8128x1, broadcastInDim S256x8128x1 ![0, 1] bcast_S256x8128_S256x8128x1_0_1 (stacked V0 2)⟩,
        ⟨S256x8128x1, broadcastInDim S256x8128x1 ![0, 1] bcast_S256x8128_S256x8128x1_0_1 (stacked V0 3)⟩] concatenates_S256x8128x1_S256x8128x1_S256x8128x1_S256x8128x1_S256x8128x4_d2) := rfl
  rw [h, ← stacked_apply]
  match f with
  | 0 => pointwise; exact unmasked V0 b k hm _ _
  | 1 => pointwise; exact unmasked V0 b k hm _ _
  | 2 => pointwise; exact unmasked V0 b k hm _ _
  | 3 => pointwise; exact unmasked V0 b k hm _ _

/-! ## The two results -/

/-- The features: each scatter writes one side of the diagonal, and neither the diagonal. -/
theorem features_apply (hm : ∀ i, argMask V0 i = 0#1) (he : ∀ b p, ∃ r : ℝ, (particle V0 b p).en = r) (p q : Fin 128) (f : Fin 4) :
    Host.scatter scatter_S256x128x128x4_S8128x2_S256x8128x4_02_12_12_1 (fun _ b => b)
      (Host.scatter scatter_S256x128x128x4_S8128x2_S256x8128x4_02_12_12_1 (fun _ b => b)
        (broadcastInDim S256x128x128x4 ![] bcast_S_S256x128x128x4 (constant S_ .f32 0x00000000#32))
        (columns (column (res_main_c V0)) (column (res_main_c_0 V0))) (res_main_v170 V0))
      (columns (column (res_main_c_0 V0)) (column (res_main_c V0))) (res_main_v170 V0)
      (ix4 (n0 := 256) (n1 := 128) (n2 := 128) (n3 := 4) b p q f) = entry f (particle V0 b) p q := by
  unfold entry
  rcases lt_trichotomy p q with h | h | h
  · rw [if_neg (ne_of_lt h)]
    refine scatter_hit _ _ _ _ smaller greater (c0_apply V0) (c_apply V0) b p q f _ (fun k hs hg => ?_)
      ((exists_entry h).imp fun _ e => ⟨e.2, e.1⟩)
    rw [v170_apply V0 b k hm f, ← hs, ← hg, featK_swap]
    exact (featK_eq_featR f _ _ (he _ _) (he _ _)).symm
  · rw [if_pos h]
    have hk := fun k => ne_of_lt (smaller_lt k)
    refine (scatter_miss _ _ _ _ smaller greater (c0_apply V0) (c_apply V0) b p q f fun k e => hk k ?_).trans
      ((scatter_miss _ _ _ _ greater smaller (c_apply V0) (c0_apply V0) b p q f fun k e => hk k ?_).trans ?_)
    · rw [e.1, e.2, h]
    · rw [e.1, e.2, h]
    · exact zero_eq
  · rw [if_neg (ne_of_gt h)]
    refine (scatter_miss _ _ _ _ smaller greater (c0_apply V0) (c_apply V0) b p q f fun k e => ?_).trans
      (scatter_hit _ _ _ _ greater smaller (c_apply V0) (c0_apply V0) b p q f _ (fun k hg hs => ?_) (exists_entry h))
    · have hk := smaller_lt k
      rw [e.1, e.2] at hk
      exact lt_asymm h hk
    · rw [v170_apply V0 b k hm f, ← hs, ← hg]
      exact (featK_eq_featR f _ _ (he _ _) (he _ _)).symm

theorem features_eq (hm : ∀ i, argMask V0 i = 0#1) (he : ∀ b p, ∃ r : ℝ, (particle V0 b p).en = r) :
    Host.scatter scatter_S256x128x128x4_S8128x2_S256x8128x4_02_12_12_1 (fun _ b => b)
      (Host.scatter scatter_S256x128x128x4_S8128x2_S256x8128x4_02_12_12_1 (fun _ b => b)
        (broadcastInDim S256x128x128x4 ![] bcast_S_S256x128x128x4 (constant S_ .f32 0x00000000#32))
        (columns (column (res_main_c V0)) (column (res_main_c_0 V0))) (res_main_v170 V0))
      (columns (column (res_main_c_0 V0)) (column (res_main_c V0))) (res_main_v170 V0)
      = fun i : S256x128x128x4.Idx => entry (i 3) (particle V0 (i 0)) (i 1) (i 2) :=
  funext fun i => by
    rw [eq_ix4 i]
    exact features_apply V0 _ hm he _ _ _

/-- The mask: no entry has a masked particle. -/
theorem mask_eq (hm : ∀ i, argMask V0 i = 0#1) : ori (take0 V0 (argMask V0)) (take1 V0 (argMask V0)) = fun _ => 0#1 :=
  funext fun i => by
    rw [eq_ix2 i]
    exact mask_apply V0 _ _ hm

end Cert.ReferenceIdeal.Entries

end
-- ==== Proof.Algebraic.lean ====
/- The two programs agree over the extended reals where every energy is finite and no particle is masked. -/
module

public import proofs.«01_k».proof.Defs
public import proofs.«01_k».proof.Proof.KernelValue
public import proofs.«01_k».proof.Proof.ReferenceValue

@[expose] public section

set_option maxRecDepth 16384

noncomputable section

namespace Cert.Pre_finite_unmasked

open Idealize.ShloMosaic

/-- The side condition of the precondition's one broadcast. -/
theorem side : Facts := ⟨by decide⟩

/-- An extended real whose absolute value lies below something is real. -/
theorem real_of_abs_lt (x y : EReal) (h : Ideal.cmp .olt (max x (-x)) y = 1#1) : ∃ r : ℝ, x = r := by
  induction x with
  | bot => simp [Ideal.cmp] at h
  | top => simp [Ideal.cmp] at h
  | coe r => exact ⟨r, rfl⟩

theorem both (a b : BitVec 1) (h : IntOp.andi a (~~~b) = 1#1) : a = 1#1 ∧ b = 0#1 := by
  revert a b
  decide

/-- What the precondition says of one particle. -/
theorem apply [Facts] (pt eta phi en : FVec Ideal S256x128 .f32) (mask : IVec S256x128 1)
    (h : fn pt eta phi en mask = fun _ => 1#1) (i : S256x128.Idx) : (∃ r : ℝ, en i = r) ∧ mask i = 0#1 := by
  have hi := both _ _ (congrFun h i)
  exact ⟨real_of_abs_lt _ _ hi.1, hi.2⟩

end Cert.Pre_finite_unmasked

namespace Cert.Proof

open Idealize.ShloMosaic Idealize.ShloMosaic.TcCoe Idealize.SL.Sem
open Cert.Pair

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's particles are the kernel's where the arguments agree. -/
theorem particle_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (b : Fin 256) :
    Cert.ReferenceIdeal.Entries.particle (StableHlo.launchContents m' c) b = Cert.KernelIdeal.Run.particle m c b := by
  funext p
  unfold Cert.ReferenceIdeal.Entries.particle Cert.KernelIdeal.Run.particle
  rw [Particle.mk.injEq]
  exact ⟨congrFun h0 _, congrFun h1 _, congrFun h2 _, congrFun h3 _⟩

theorem algebraic : Cert.algebraic_KernelIdeal_ReferenceIdeal_pre_finite_unmasked (hPre_finite_unmasked := Cert.Pre_finite_unmasked.side) := by
  intro m ρ m' ρ' hpre hagree
  refine ⟨fun c => Cert.KernelIdeal.Run.values m c, fun c => fun _ => 0#1, Cert.KernelIdeal.Run.run_values m ρ, ?_⟩
  refine (θ_run Cert.ReferenceIdeal.defs _ _).mono (fun r h c => ?_) (Cert.ReferenceIdeal.Value.run (F := Ideal) m' ρ')
  obtain ⟨a0, a1, a2, a3, a4⟩ := hagree c
  have hp := fun i => @Cert.Pre_finite_unmasked.apply Cert.Pre_finite_unmasked.side _ _ _ _ _ (hpre c) i
  have hpart := particle_eq m m' c a0 a1 a2 a3
  have hm : ∀ i, Cert.ReferenceIdeal.Entries.argMask (StableHlo.launchContents m' c) i = 0#1 :=
    fun i => (congrFun a4 i).trans (hp i).2
  have he : ∀ b p, ∃ s : ℝ, (Cert.ReferenceIdeal.Entries.particle (StableHlo.launchContents m' c) b p).en = s := by
    intro b p
    rw [hpart]
    exact (hp (ix2 (n0 := 256) (n1 := 128) b p)).1
  exact ⟨(h c).1.trans ((Cert.ReferenceIdeal.Entries.features_eq _ hm he).trans
      (funext fun i => congrArg (fun v => entry (i 3) v (i 1) (i 2)) (hpart (i 0)))),
    (h c).2.1.trans (Cert.ReferenceIdeal.Entries.mask_eq _ hm), (h c).2.2⟩

end Cert.Proof

end
-- ==== Proof.lean ====
module

public import proofs.«01_k».proof.Defs
public import proofs.«01_k».proof.Proof.Gen.ReferenceIdeal.Run
public import proofs.«01_k».proof.Proof.FrameKernel
public import proofs.«01_k».proof.Proof.FrameKernelIdeal
public import proofs.«01_k».proof.Proof.Algebraic
public import Idealize.ShloMosaic.Lib.Quiescent

@[expose] public section

noncomputable section

namespace Cert.Proof

open Idealize.ShloMosaic Idealize.SL.Sem

/-- The reference declares no semaphore, and its run leaves the arguments as launched. -/
theorem quiescent_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The factor by which the kernel multiplies an angle is named as one over a full turn. -/
theorem preserves : Cert.preserves_Kernel_KernelIdeal :=
  IdealRules.named_const.statement (κ := Cert.KernelIdeal.κ) (name := "inv_two_pi") .f32 0x3E22F983#32 _ rfl

theorem claim : Cert.Claim :=
  ⟨Cert.Kernel.Gen.facts, Cert.KernelIdeal.Gen.facts, Cert.ReferenceIdeal.Gen.facts, Cert.Pre_finite_unmasked.side,
    fun m ρ _ => Cert.Kernel.Run.frame m ρ, fun m ρ _ => Cert.KernelIdeal.Run.frame m ρ, fun m ρ _ => Cert.KernelIdeal.Run.frame m ρ,
    quiescent_reference, fun m ρ _ => quiescent_reference m ρ trivial, preserves, algebraic⟩

end Cert.Proof

end
